-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x2048 : Shape := ⟨2, ![8192, 2048]⟩
abbrev S2048 : Shape := ⟨1, ![2048]⟩
abbrev S4x2048x11264 : Shape := ⟨3, ![4, 2048, 11264]⟩
abbrev S4x3x11264 : Shape := ⟨3, ![4, 3, 11264]⟩
abbrev S1x2048x5632 : Shape := ⟨3, ![1, 2048, 5632]⟩
abbrev S2048x5632 : Shape := ⟨2, ![2048, 5632]⟩
abbrev S1x3x5632 : Shape := ⟨3, ![1, 3, 5632]⟩
abbrev S3x5632 : Shape := ⟨2, ![3, 5632]⟩
abbrev S_ : Shape := ⟨0, ![]⟩

class Facts : Prop where
  slices_S4x2048x11264_S1x2048x5632_0_0_0 : S4x2048x11264.Slices ![0, 0, 0] S1x2048x5632
  shapeCasts_S1x2048x5632_S2048x5632 : S1x2048x5632.ShapeCasts S2048x5632
  slices_S4x3x11264_S1x3x5632_0_0_0 : S4x3x11264.Slices ![0, 0, 0] S1x3x5632
  shapeCasts_S1x3x5632_S3x5632 : S1x3x5632.ShapeCasts S3x5632
  bcast_S_S2048 : S_.BroadcastsInDim S2048 (![] : Fin 0 → Fin S2048.rank)
  bcast_S_S2048x5632 : S_.BroadcastsInDim S2048x5632 (![] : Fin 0 → Fin S2048x5632.rank)
  bcast_S_S3x5632 : S_.BroadcastsInDim S3x5632 (![] : Fin 0 → Fin S3x5632.rank)

variable [Facts]

def fn {F : FTy → Type} [FloatOps F] (main_arg0 : FVec F S8192x2048 .f32) (main_arg1 : FVec F S2048 .f32) (main_arg2 : FVec F S4x2048x11264 .f32) (main_arg3 : FVec F S4x3x11264 .f32) : IVec S2048 1 × IVec S2048x5632 1 × IVec S3x5632 1 :=
  let main_v0 : FVec F S1x2048x5632 .f32 := (extractStridedSlice S1x2048x5632 ![0, 0, 0] · slices_S4x2048x11264_S1x2048x5632_0_0_0) main_arg2
  let main_v1 : FVec F S2048x5632 .f32 := shapeCast S2048x5632 main_v0 shapeCasts_S1x2048x5632_S2048x5632
  let main_v2 : FVec F S1x3x5632 .f32 := (extractStridedSlice S1x3x5632 ![0, 0, 0] · slices_S4x3x11264_S1x3x5632_0_0_0) main_arg3
  let main_v3 : FVec F S3x5632 .f32 := shapeCast S3x5632 main_v2 shapeCasts_S1x3x5632_S3x5632
  let main_v4 : FVec F S2048 .f32 := Host.absf main_arg1
  let main_cst : FVec F S_ .f32 := constant S_ .f32 0x7F800000#32
  let main_v5 : FVec F S2048 .f32 := broadcastInDim S2048 ![] bcast_S_S2048 main_cst
  let main_v6 : IVec S2048 1 := cmpf .olt main_v4 main_v5
  let main_v7 : FVec F S2048x5632 .f32 := Host.absf main_v1
  let main_cst_0 : FVec F S_ .f32 := constant S_ .f32 0x7F800000#32
  let main_v8 : FVec F S2048x5632 .f32 := broadcastInDim S2048x5632 ![] bcast_S_S2048x5632 main_cst_0
  let main_v9 : IVec S2048x5632 1 := cmpf .olt main_v7 main_v8
  let main_v10 : FVec F S3x5632 .f32 := Host.absf main_v3
  let main_cst_1 : FVec F S_ .f32 := constant S_ .f32 0x7F800000#32
  let main_v11 : FVec F S3x5632 .f32 := broadcastInDim S3x5632 ![] bcast_S_S3x5632 main_cst_1
  let main_v12 : IVec S3x5632 1 := cmpf .olt main_v10 main_v11
  (main_v6, main_v9, main_v12)
-- ==== Kernel.lean ====
abbrev S8192x5760 : Shape := ⟨2, ![8192, 5760]⟩
abbrev S4 : Shape := ⟨1, ![4]⟩
abbrev S512 : Shape := ⟨1, ![512]⟩
abbrev S_ : Shape := ⟨0, ![]⟩
abbrev S120 : Shape := ⟨1, ![120]⟩
abbrev S128 : Shape := ⟨1, ![128]⟩
abbrev S1x128 : Shape := ⟨2, ![1, 128]⟩
abbrev S1x512 : Shape := ⟨2, ![1, 512]⟩
abbrev S4x2048x5760 : Shape := ⟨3, ![4, 2048, 5760]⟩
abbrev S4x2048x512 : Shape := ⟨3, ![4, 2048, 512]⟩
abbrev S4x128x512 : Shape := ⟨3, ![4, 128, 512]⟩
abbrev S4x128x128 : Shape := ⟨3, ![4, 128, 128]⟩
abbrev S16x128x128 : Shape := ⟨3, ![16, 128, 128]⟩
abbrev S16x1x128 : Shape := ⟨3, ![16, 1, 128]⟩
abbrev S64x64 : Shape := ⟨2, ![64, 64]⟩
abbrev S1x128x128 : Shape := ⟨3, ![1, 128, 128]⟩
abbrev S128x128 : Shape := ⟨2, ![128, 128]⟩
abbrev S1x1x128 : Shape := ⟨3, ![1, 1, 128]⟩
abbrev S16x1x1 : Shape := ⟨3, ![16, 1, 1]⟩
abbrev S1x64x128 : Shape := ⟨3, ![1, 64, 128]⟩
abbrev S64x128 : Shape := ⟨2, ![64, 128]⟩
abbrev S16x64x128 : Shape := ⟨3, ![16, 64, 128]⟩
abbrev S128x64 : Shape := ⟨2, ![128, 64]⟩
abbrev S1x128x64 : Shape := ⟨3, ![1, 128, 64]⟩
abbrev S16x128x64 : Shape := ⟨3, ![16, 128, 64]⟩
abbrev S64x1 : Shape := ⟨2, ![64, 1]⟩
abbrev S1x64x1 : Shape := ⟨3, ![1, 64, 1]⟩
abbrev S16x64x1 : Shape := ⟨3, ![16, 64, 1]⟩
abbrev S1x64 : Shape := ⟨2, ![1, 64]⟩
abbrev S1x1x64 : Shape := ⟨3, ![1, 1, 64]⟩
abbrev S16x1x64 : Shape := ⟨3, ![16, 1, 64]⟩
abbrev S1x64x64 : Shape := ⟨3, ![1, 64, 64]⟩
abbrev S16x64x64 : Shape := ⟨3, ![16, 64, 64]⟩
abbrev S16x64 : Shape := ⟨2, ![16, 64]⟩
abbrev S16x1 : Shape := ⟨2, ![16, 1]⟩
abbrev S16x128 : Shape := ⟨2, ![16, 128]⟩

abbrev nBuf : Space → Nat
  | .hbm => 11
  | .vmem => 17
  | .smem => 0
  | _ => 0

abbrev bufTy : (tb : Table) → Fin (tcTables nBuf tb) → BufTy
  | .hbm, ⟨0, _⟩ => ⟨S8192x5760, .f32⟩
  | .hbm, ⟨1, _⟩ => ⟨S4, .f32⟩
  | .hbm, ⟨2, _⟩ => ⟨S4, .f32⟩
  | .hbm, ⟨3, _⟩ => ⟨S512, .f32⟩
  | .hbm, ⟨4, _⟩ => ⟨S_, .f32⟩
  | .hbm, ⟨5, _⟩ => ⟨S120, .f32⟩
  | .hbm, ⟨6, _⟩ => ⟨S128, .f32⟩
  | .hbm, ⟨7, _⟩ => ⟨S1x128, .f32⟩
  | .hbm, ⟨8, _⟩ => ⟨S1x512, .f32⟩
  | .hbm, ⟨9, _⟩ => ⟨S4x2048x5760, .f32⟩
  | .hbm, ⟨10, _⟩ => ⟨S4x2048x512, .bf16⟩
  | .local _ .vmem, ⟨0, _⟩ => ⟨S4x128x512, .f32⟩
  | .local _ .vmem, ⟨1, _⟩ => ⟨S4x128x512, .f32⟩
  | .local _ .vmem, ⟨2, _⟩ => ⟨S4x128x512, .f32⟩
  | .local _ .vmem, ⟨3, _⟩ => ⟨S4x128x512, .f32⟩
  | .local _ .vmem, ⟨4, _⟩ => ⟨S4x128x512, .f32⟩
  | .local _ .vmem, ⟨5, _⟩ => ⟨S4x128x512, .f32⟩
  | .local _ .vmem, ⟨6, _⟩ => ⟨S4x128x512, .f32⟩
  | .local _ .vmem, ⟨7, _⟩ => ⟨S4x128x512, .f32⟩
  | .local _ .vmem, ⟨8, _⟩ => ⟨S4x128x128, .f32⟩
  | .local _ .vmem, ⟨9, _⟩ => ⟨S4x128x128, .f32⟩
  | .local _ .vmem, ⟨10, _⟩ => ⟨S1x128, .f32⟩
  | .local _ .vmem, ⟨11, _⟩ => ⟨S1x512, .f32⟩
  | .local _ .vmem, ⟨12, _⟩ => ⟨S4x128x512, .bf16⟩
  | .local _ .vmem, ⟨13, _⟩ => ⟨S4x128x512, .bf16⟩
  | .local _ .vmem, ⟨14, _⟩ => ⟨S16x128x128, .f32⟩
  | .local _ .vmem, ⟨15, _⟩ => ⟨S16x1x128, .f32⟩
  | .local _ .vmem, ⟨16, _⟩ => ⟨S16x1x128, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, arg1.toNat, c44_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x5760 : Shape := ⟨2, ![8192, 5760]⟩
abbrev S4 : Shape := ⟨1, ![4]⟩
abbrev S512 : Shape := ⟨1, ![512]⟩
abbrev S4x2048x5760 : Shape := ⟨3, ![4, 2048, 5760]⟩
abbrev S4x2048x512 : Shape := ⟨3, ![4, 2048, 512]⟩
abbrev S4x2048x4 : Shape := ⟨3, ![4, 2048, 4]⟩
abbrev S1x1x4 : Shape := ⟨3, ![1, 1, 4]⟩
abbrev S4x2048x4x128 : Shape := ⟨4, ![4, 2048, 4, 128]⟩
abbrev S4x4x2048x128 : Shape := ⟨4, ![4, 4, 2048, 128]⟩
abbrev S4x4x2048 : Shape := ⟨3, ![4, 4, 2048]⟩
abbrev S_ : Shape := ⟨0, ![]⟩
abbrev S64x64 : Shape := ⟨2, ![64, 64]⟩
abbrev S4x4x128x128 : Shape := ⟨4, ![4, 4, 128, 128]⟩
abbrev S4x4x128 : Shape := ⟨3, ![4, 4, 128]⟩
abbrev S4x4 : Shape := ⟨2, ![4, 4]⟩
abbrev S4x4x32x64x128 : Shape := ⟨5, ![4, 4, 32, 64, 128]⟩
abbrev S32x4x4x64x128 : Shape := ⟨5, ![32, 4, 4, 64, 128]⟩
abbrev S4x4x32x64 : Shape := ⟨4, ![4, 4, 32, 64]⟩
abbrev S32x4x4x64 : Shape := ⟨4, ![32, 4, 4, 64]⟩
abbrev S1x4x4x64x128 : Shape := ⟨5, ![1, 4, 4, 64, 128]⟩
abbrev S4x4x64x128 : Shape := ⟨4, ![4, 4, 64, 128]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x2048x4x1 : Shape := ⟨4, ![4, 2048, 4, 1]⟩
abbrev S4x128 : Shape := ⟨2, ![4, 128]⟩
abbrev S1x1x4x128 : Shape := ⟨4, ![1, 1, 4, 128]⟩

abbrev nBuf : Space → Nat
  | .hbm => 241
  | .vmem => 0
  | .smem => 0
  | _ => 0

abbrev hbmTy0_0 (i : Nat) : BufTy := match i % 128 with
  | 0 => ⟨S8192x5760, .f32⟩
  | 1 => ⟨S4, .f32⟩
  | 2 => ⟨S4, .f32⟩
  | 3 => ⟨S512, .f32⟩
  | 4 => ⟨S4x2048x5760, .f32⟩
  | 5 => ⟨S4x2048x512, .f32⟩
  | 6 => ⟨S4x2048x512, .f32⟩
  | 7 => ⟨S4x2048x512, .f32⟩
  | 8 => ⟨S4x2048x4, .f32⟩
  | 9 => ⟨S1x1x4, .f32⟩
  | 10 => ⟨S4x2048x4, .f32⟩
  | 11 => ⟨S4x2048x4, .f32⟩
  | 12 => ⟨S4x2048x4, .f32⟩
  | 13 => ⟨S1x1x4, .f32⟩
  | 14 => ⟨S4x2048x4, .f32⟩
  | 15 => ⟨S4x2048x4, .f32⟩
  | 16 => ⟨S4x2048x4x128, .f32⟩
  | 17 => ⟨S4x4x2048x128, .f32⟩
  | 18 => ⟨S4x2048x4x128, .f32⟩
  | 19 => ⟨S4x4x2048x128, .f32⟩
  | 20 => ⟨S4x2048x4x128, .f32⟩
  | 21 => ⟨S4x4x2048x128, .f32⟩
  | 22 => ⟨S4x4x2048, .f32⟩
  | 23 => ⟨S4x4x2048, .f32⟩
  | 24 => ⟨S4x4x2048, .f32⟩
  | 25 => ⟨S_, .f32⟩
  | 26 => ⟨S4x4x2048, .f32⟩
  | 27 => ⟨S4x4x2048, .f32⟩
  | 28 => ⟨S4x4x2048, .f32⟩
  | 29 => ⟨S4x4x2048, .f32⟩
  | 30 => ⟨S4x4x2048, .i1⟩
  | 31 => ⟨S4x4x2048, .f32⟩
  | 32 => ⟨S4x4x2048, .f32⟩
  | 33 => ⟨S4x4x2048, .f32⟩
  | 34 => ⟨S4x4x2048, .f32⟩
  | 35 => ⟨S4x4x2048, .f32⟩
  | 36 => ⟨S4x4x2048, .f32⟩
  | 37 => ⟨S4x4x2048, .f32⟩
  | 38 => ⟨S4x4x2048, .f32⟩
  | 39 => ⟨S4x4x2048, .f32⟩
  | 40 => ⟨S_, .i1⟩
  | 41 => ⟨S64x64, .i1⟩
  | 42 => ⟨S64x64, .i32⟩
  | 43 => ⟨S_, .i32⟩
  | 44 => ⟨S64x64, .i32⟩
  | 45 => ⟨S64x64, .i32⟩
  | 46 => ⟨S64x64, .i32⟩
  | 47 => ⟨S64x64, .i1⟩
  | 48 => ⟨S_, .i1⟩
  | 49 => ⟨S64x64, .i1⟩
  | 50 => ⟨S64x64, .i1⟩
  | 51 => ⟨S_, .f32⟩
  | 52 => ⟨S4x4x128x128, .f32⟩
  | 53 => ⟨S_, .f32⟩
  | 54 => ⟨S4x4x128, .f32⟩
  | 55 => ⟨S_, .f32⟩
  | 56 => ⟨S4x4, .f32⟩
  | 57 => ⟨S4x4x32x64x128, .f32⟩
  | 58 => ⟨S32x4x4x64x128, .f32⟩
  | 59 => ⟨S4x4x32x64x128, .f32⟩
  | 60 => ⟨S32x4x4x64x128, .f32⟩
  | 61 => ⟨S_, .f32⟩
  | 62 => ⟨S32x4x4x64x128, .f32⟩
  | 63 => ⟨S32x4x4x64x128, .f32⟩
  | 64 => ⟨S4x4x32x64x128, .f32⟩
  | 65 => ⟨S32x4x4x64x128, .f32⟩
  | 66 => ⟨S4x4x32x64, .f32⟩
  | 67 => ⟨S32x4x4x64, .f32⟩
  | 68 => ⟨S4x4x32x64, .f32⟩
  | 69 => ⟨S32x4x4x64, .f32⟩
  | 70 => ⟨S_, .f32⟩
  | 71 => ⟨S32x4x4x64x128, .f32⟩
  | 72 => ⟨S_, .i32⟩
  | 73 => ⟨S32x4x4x64x128, .f32⟩
  | 74 => ⟨S32x4x4x64x128, .f32⟩
  | 75 => ⟨S32x4x4x64x128, .f32⟩
  | 76 => ⟨S32x4x4x64, .f32⟩
  | 77 => ⟨S32x4x4x64, .f32⟩
  | 78 => ⟨S64x64, .i1⟩
  | 79 => ⟨S_, .i32⟩
  | 80 => ⟨S4x4x128x128, .f32⟩
  | 81 => ⟨S4x4x128, .f32⟩
  | 82 => ⟨S4x4, .f32⟩
  | 83 => ⟨S32x4x4x64x128, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1x4x4x64x128, .f32⟩
  | 91 => ⟨S4x4x64x128, .f32⟩
  | 92 => ⟨S_, .i32⟩
  | 93 => ⟨S_, .i32⟩
  | 94 => ⟨S_, .i32⟩
  | 95 => ⟨S_, .i32⟩
  | 96 => ⟨S1x4x4x64x128, .f32⟩
  | 97 => ⟨S4x4x64x128, .f32⟩
  | 98 => ⟨S_, .i32⟩
  | 99 => ⟨S_, .i32⟩
  | 100 => ⟨S_, .i32⟩
  | 101 => ⟨S_, .i32⟩
  | 102 => ⟨S1x4x4x64x128, .f32⟩
  | 103 => ⟨S4x4x64x128, .f32⟩
  | 104 => ⟨S_, .i32⟩
  | 105 => ⟨S_, .i32⟩
  | 106 => ⟨S_, .i32⟩
  | 107 => ⟨S1x4x4x64, .f32⟩
  | 108 => ⟨S4x4x64, .f32⟩
  | 109 => ⟨S_, .i32⟩
  | 110 => ⟨S_, .i32⟩
  | 111 => ⟨S_, .i32⟩
  | 112 => ⟨S1x4x4x64, .f32⟩
  | 113 => ⟨S4x4x64, .f32⟩
  | 114 => ⟨S_, .f32⟩
  | 115 => ⟨S_, .f32⟩
  | 116 => ⟨S4x4x64, .f32⟩
  | 117 => ⟨S4x4x64x1, .f32⟩
  | 118 => ⟨S4x4x1x64, .f32⟩
  | 119 => ⟨S4x4x64x64, .f32⟩
  | 120 => ⟨S4x4x64x64, .f32⟩
  | 121 => ⟨S4x4x64x64, .f32⟩
  | 122 => ⟨S4x4x1x64, .f32⟩
  | 123 => ⟨S4x4x64x64, .f32⟩
  | 124 => ⟨S4x4x64x64, .f32⟩
  | 125 => ⟨S_, .f32⟩
  | 126 => ⟨S_, .f32⟩
  | 127 => ⟨S4x4x64x64, .i1⟩
  | _ => ⟨S8192x5760, .f32⟩

abbrev hbmTy0_1 (i : Nat) : BufTy := match i % 128 with
  | 0 => ⟨S4x4x64x64, .f32⟩
  | 1 => ⟨S4x4x64x64, .f32⟩
  | 2 => ⟨S4x4x1, .f32⟩
  | 3 => ⟨S4x4x64, .f32⟩
  | 4 => ⟨S4x4x64, .f32⟩
  | 5 => ⟨S_, .f32⟩
  | 6 => ⟨S4x4x64, .f32⟩
  | 7 => ⟨S4x4x64, .f32⟩
  | 8 => ⟨S4x4x64x64, .f32⟩
  | 9 => ⟨S4x4x64x1, .f32⟩
  | 10 => ⟨S4x4x64x64, .f32⟩
  | 11 => ⟨S4x4x64x64, .f32⟩
  | 12 => ⟨S4x4x64x64, .f32⟩
  | 13 => ⟨S4x4x64x64, .f32⟩
  | 14 => ⟨S4x4x64, .f32⟩
  | 15 => ⟨S4x4x64, .f32⟩
  | 16 => ⟨S4x4x64x128, .f32⟩
  | 17 => ⟨S4x4x64x1, .f32⟩
  | 18 => ⟨S4x4x64x128, .f32⟩
  | 19 => ⟨S4x4x64x128, .f32⟩
  | 20 => ⟨S4x4x64x128, .f32⟩
  | 21 => ⟨S4x4x64x128, .f32⟩
  | 22 => ⟨S_, .f32⟩
  | 23 => ⟨S4x4x64, .f32⟩
  | 24 => ⟨S4x4x64, .f32⟩
  | 25 => ⟨S4x4x64, .f32⟩
  | 26 => ⟨S4x4x64, .f32⟩
  | 27 => ⟨S4x4x64, .f32⟩
  | 28 => ⟨S4x4x64, .f32⟩
  | 29 => ⟨S4x4x64, .f32⟩
  | 30 => ⟨S4x4x64, .f32⟩
  | 31 => ⟨S4x4x64x1, .f32⟩
  | 32 => ⟨S4x4x64x128, .f32⟩
  | 33 => ⟨S4x4x64x128, .f32⟩
  | 34 => ⟨S4x4x1, .f32⟩
  | 35 => ⟨S4x4, .f32⟩
  | 36 => ⟨S4x4x1, .f32⟩
  | 37 => ⟨S4x4x64, .f32⟩
  | 38 => ⟨S4x4x64, .f32⟩
  | 39 => ⟨S4x4x64, .f32⟩
  | 40 => ⟨S4x4, .f32⟩
  | 41 => ⟨S_, .f32⟩
  | 42 => ⟨S4x4, .f32⟩
  | 43 => ⟨S4x4, .f32⟩
  | 44 => ⟨S4x4x1, .f32⟩
  | 45 => ⟨S4x4x64, .f32⟩
  | 46 => ⟨S4x4x64, .f32⟩
  | 47 => ⟨S4x4x64, .f32⟩
  | 48 => ⟨S4x4, .f32⟩
  | 49 => ⟨S4x4, .f32⟩
  | 50 => ⟨S4x4, .f32⟩
  | 51 => ⟨S4x4x1x1, .f32⟩
  | 52 => ⟨S4x4x128x128, .f32⟩
  | 53 => ⟨S4x4x128x128, .f32⟩
  | 54 => ⟨S4x4x64x1, .f32⟩
  | 55 => ⟨S4x4x64x128, .f32⟩
  | 56 => ⟨S4x4x64x128, .f32⟩
  | 57 => ⟨S4x4x128x128, .f32⟩
  | 58 => ⟨S4x4x128x128, .f32⟩
  | 59 => ⟨S4x4x1, .f32⟩
  | 60 => ⟨S4x4x128, .f32⟩
  | 61 => ⟨S4x4x128, .f32⟩
  | 62 => ⟨S4x4x128, .f32⟩
  | 63 => ⟨S4x4x128, .f32⟩
  | 64 => ⟨S1x4x4x64x128, .f32⟩
  | 65 => ⟨S_, .i32⟩
  | 66 => ⟨S_, .i32⟩
  | 67 => ⟨S_, .i32⟩
  | 68 => ⟨S_, .i32⟩
  | 69 => ⟨S32x4x4x64x128, .f32⟩
  | 70 => ⟨S_, .i32⟩
  | 71 => ⟨S_, .i32⟩
  | 72 => ⟨S4x4x32x64x128, .f32⟩
  | 73 => ⟨S4x4x2048x128, .f32⟩
  | 74 => ⟨S4x2048x4x128, .f32⟩
  | 75 => ⟨S_, .f32⟩
  | 76 => ⟨S4x2048x4, .f32⟩
  | 77 => ⟨S4x2048x4x1, .f32⟩
  | 78 => ⟨S_, .f32⟩
  | 79 => ⟨S4x2048x4x1, .f32⟩
  | 80 => ⟨S4x2048x4x1, .f32⟩
  | 81 => ⟨S4x2048x4x128, .f32⟩
  | 82 => ⟨S4x2048x4x128, .f32⟩
  | 83 => ⟨S4x2048x4x128, .f32⟩
  | 84 => ⟨S_, .f32⟩
  | 85 => ⟨S4x2048x4, .f32⟩
  | 86 => ⟨S4x2048x4x1, .f32⟩
  | 87 => ⟨S_, .f32⟩
  | 88 => ⟨S4x2048x4x1, .f32⟩
  | 89 => ⟨S4x2048x4x1, .f32⟩
  | 90 => ⟨S_, .f32⟩
  | 91 => ⟨S4x2048x4x1, .f32⟩
  | 92 => ⟨S4x2048x4x1, .f32⟩
  | 93 => ⟨S4x2048x4x1, .f32⟩
  | 94 => ⟨S4x2048x4x128, .f32⟩
  | 95 => ⟨S4x2048x4x128, .f32⟩
  | 96 => ⟨S4x128, .f32⟩
  | 97 => ⟨S1x1x4x128, .f32⟩
  | 98 => ⟨S4x2048x4x128, .f32⟩
  | 99 => ⟨S4x2048x4x128, .f32⟩
  | 100 => ⟨S4x2048x512, .f32⟩
  | 101 => ⟨S4x2048x5760, .f32⟩
  | 102 => ⟨S4x2048x512, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S_, .f32⟩
  | 109 => ⟨S4x2048x512, .f32⟩
  | 110 => ⟨S4x2048x512, .f32⟩
  | 111 => ⟨S4x2048x512, .f32⟩
  | 112 => ⟨S4x2048x512, .bf16⟩
  | _ => ⟨S8192x5760, .f32⟩

abbrev hbmTy (i : Nat) : BufTy := match i / 128 with
  | 0 => hbmTy0_0 i
  | 1 => hbmTy0_1 i
  | _ => ⟨S8192x5760, .f32⟩

abbrev bufTy : (tb : Table) → Fin (tcTables nBuf tb) → BufTy
  | .hbm, ⟨i, _⟩ => hbmTy i
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_cst_0 : Ref sig .tc := ⟨.hbm, 53, rfl⟩
abbrev main_v24 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_3 : Ref sig .tc := ⟨.hbm, 70, rfl⟩
abbrev main_v38 : Ref sig .tc := ⟨.hbm, 71, rfl⟩
abbrev main_c_4 : Ref sig .tc := ⟨.hbm, 72, rfl⟩
abbrev main_v39_0 : Ref sig .tc := ⟨.hbm, 73, rfl⟩
abbrev main_v39_1 : Ref sig .tc := ⟨.hbm, 74, rfl⟩
abbrev main_v39_2 : Ref sig .tc := ⟨.hbm, 75, rfl⟩
abbrev main_v39_3 : Ref sig .tc := ⟨.hbm, 76, rfl⟩
abbrev main_v39_4 : Ref sig .tc := ⟨.hbm, 77, rfl⟩
abbrev main_v39_5 : Ref sig .tc := ⟨.hbm, 78, rfl⟩
abbrev main_v39_6 : Ref sig .tc := ⟨.hbm, 79, rfl⟩
abbrev main_v39_7 : Ref sig .tc := ⟨.hbm, 80, rfl⟩
abbrev main_v39_8 : Ref sig .tc := ⟨.hbm, 81, rfl⟩
abbrev main_v39_9 : Ref sig .tc := ⟨.hbm, 82, rfl⟩
abbrev main_v39_10 : Ref sig .tc := ⟨.hbm, 83, rfl⟩
abbrev main_while0c_c_22 : Ref sig .tc := ⟨.hbm, 84, rfl⟩
abbrev main_while0c_v74 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v74 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v75 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v76 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_v0 : Ref sig .tc := ⟨.hbm, 107, rfl⟩
abbrev main_while0b_v77 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_v0 : Ref sig .tc := ⟨.hbm, 112, rfl⟩
abbrev main_while0b_v78 : Ref sig .tc := ⟨.hbm, 113, rfl⟩
abbrev main_while0b_call7_call0_cst : Ref sig .tc := ⟨.hbm, 114, rfl⟩
abbrev main_while0b_call7_call0_v0 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_cst_22 : Ref sig .tc := ⟨.hbm, 125, rfl⟩
abbrev main_while0b_call8_v0 : Ref sig .tc := ⟨.hbm, 126, rfl⟩
abbrev main_while0b_call8_v1 : Ref sig .tc := ⟨.hbm, 127, rfl⟩
abbrev main_while0b_call8_v2 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_cst_23 : Ref sig .tc := ⟨.hbm, 133, rfl⟩
abbrev main_while0b_v92 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_v96 : Ref sig .tc := ⟨.hbm, 138, rfl⟩
abbrev main_while0b_v97 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_cst_24 : Ref sig .tc := ⟨.hbm, 150, rfl⟩
abbrev main_while0b_v108 : Ref sig .tc := ⟨.hbm, 151, rfl⟩
abbrev main_while0b_v109 : Ref sig .tc := ⟨.hbm, 152, rfl⟩
abbrev main_while0b_v110 : Ref sig .tc := ⟨.hbm, 153, rfl⟩
abbrev main_while0b_v111 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_v122 : Ref sig .tc := ⟨.hbm, 165, rfl⟩
abbrev main_while0b_v123 : Ref sig .tc := ⟨.hbm, 166, rfl⟩
abbrev main_while0b_v124 : Ref sig .tc := ⟨.hbm, 167, rfl⟩
abbrev main_while0b_v125 : Ref sig .tc := ⟨.hbm, 168, rfl⟩
abbrev main_while0b_cst_25 : Ref sig .tc := ⟨.hbm, 169, rfl⟩
abbrev main_while0b_v126 : Ref sig .tc := ⟨.hbm, 170, rfl⟩
abbrev main_while0b_v127 : Ref sig .tc := ⟨.hbm, 171, rfl⟩
abbrev main_while0b_v128 : Ref sig .tc := ⟨.hbm, 172, rfl⟩
abbrev main_while0b_v129 : Ref sig .tc := ⟨.hbm, 173, rfl⟩
abbrev main_while0b_v130 : Ref sig .tc := ⟨.hbm, 174, rfl⟩
abbrev main_while0b_v131 : Ref sig .tc := ⟨.hbm, 175, rfl⟩
abbrev main_while0b_v132 : Ref sig .tc := ⟨.hbm, 176, rfl⟩
abbrev main_while0b_v133 : Ref sig .tc := ⟨.hbm, 177, rfl⟩
abbrev main_while0b_v134 : Ref sig .tc := ⟨.hbm, 178, rfl⟩
abbrev main_while0b_v135 : Ref sig .tc := ⟨.hbm, 179, rfl⟩
abbrev main_while0b_v136 : Ref sig .tc := ⟨.hbm, 180, rfl⟩
abbrev main_while0b_v137 : Ref sig .tc := ⟨.hbm, 181, rfl⟩
abbrev main_while0b_v138 : Ref sig .tc := ⟨.hbm, 182, rfl⟩
abbrev main_while0b_v139 : Ref sig .tc := ⟨.hbm, 183, rfl⟩
abbrev main_while0b_v140 : Ref sig .tc := ⟨.hbm, 184, rfl⟩
abbrev main_while0b_v141 : Ref sig .tc := ⟨.hbm, 185, rfl⟩
abbrev main_while0b_v142 : Ref sig .tc := ⟨.hbm, 186, rfl⟩
abbrev main_while0b_v143 : Ref sig .tc := ⟨.hbm, 187, rfl⟩
abbrev main_while0b_v144 : Ref sig .tc := ⟨.hbm, 188, rfl⟩
abbrev main_while0b_v145 : Ref sig .tc := ⟨.hbm, 189, rfl⟩
abbrev main_while0b_v146 : Ref sig .tc := ⟨.hbm, 190, rfl⟩
abbrev main_while0b_v147 : Ref sig .tc := ⟨.hbm, 191, rfl⟩
abbrev main_while0b_call9_v0 : Ref sig .tc := ⟨.hbm, 192, rfl⟩
abbrev main_while0b_call9_c : Ref sig .tc := ⟨.hbm, 193, rfl⟩
abbrev main_while0b_call9_c_0 : Ref sig .tc := ⟨.hbm, 194, rfl⟩
abbrev main_while0b_call9_c_1 : Ref sig .tc := ⟨.hbm, 195, rfl⟩
abbrev main_while0b_call9_c_2 : Ref sig .tc := ⟨.hbm, 196, rfl⟩
abbrev main_while0b_v148 : Ref sig .tc := ⟨.hbm, 197, rfl⟩
abbrev main_while0b_c_26 : Ref sig .tc := ⟨.hbm, 198, rfl⟩
abbrev main_while0b_v149 : Ref sig .tc := ⟨.hbm, 199, rfl⟩
abbrev main_v40 : Ref sig .tc := ⟨.hbm, 200, rfl⟩
abbrev main_v41 : Ref sig .tc := ⟨.hbm, 201, rfl⟩
abbrev main_v42 : Ref sig .tc := ⟨.hbm, 202, rfl⟩
abbrev main_cst_5 : Ref sig .tc := ⟨.hbm, 203, rfl⟩
abbrev main_v43 : Ref sig .tc := ⟨.hbm, 204, rfl⟩
abbrev main_v44 : Ref sig .tc := ⟨.hbm, 205, rfl⟩
abbrev main_cst_6 : Ref sig .tc := ⟨.hbm, 206, rfl⟩
abbrev main_v45 : Ref sig .tc := ⟨.hbm, 207, rfl⟩
abbrev main_v46 : Ref sig .tc := ⟨.hbm, 208, rfl⟩
abbrev main_v47 : Ref sig .tc := ⟨.hbm, 209, rfl⟩
abbrev main_v48 : Ref sig .tc := ⟨.hbm, 210, rfl⟩
abbrev main_v49 : Ref sig .tc := ⟨.hbm, 211, rfl⟩
abbrev main_cst_7 : Ref sig .tc := ⟨.hbm, 212, rfl⟩
abbrev main_v50 : Ref sig .tc := ⟨.hbm, 213, rfl⟩
abbrev main_v51 : Ref sig .tc := ⟨.hbm, 214, rfl⟩
abbrev main_cst_8 : Ref sig .tc := ⟨.hbm, 215, rfl⟩
abbrev main_v52 : Ref sig .tc := ⟨.hbm, 216, rfl⟩
abbrev main_v53 : Ref sig .tc := ⟨.hbm, 217, rfl⟩
abbrev main_cst_9 : Ref sig .tc := ⟨.hbm, 218, rfl⟩
abbrev main_v54 : Ref sig .tc := ⟨.hbm, 219, rfl⟩
abbrev main_v55 : Ref sig .tc := ⟨.hbm, 220, rfl⟩
abbrev main_v56 : Ref sig .tc := ⟨.hbm, 221, rfl⟩
abbrev main_v57 : Ref sig .tc := ⟨.hbm, 222, rfl⟩
abbrev main_v58 : Ref sig .tc := ⟨.hbm, 223, rfl⟩
abbrev main_v59 : Ref sig .tc := ⟨.hbm, 224, rfl⟩
abbrev main_v60 : Ref sig .tc := ⟨.hbm, 225, rfl⟩
abbrev main_v61 : Ref sig .tc := ⟨.hbm, 226, rfl⟩
abbrev main_v62 : Ref sig .tc := ⟨.hbm, 227, rfl⟩
abbrev main_v63 : Ref sig .tc := ⟨.hbm, 228, rfl⟩
abbrev main_v64 : Ref sig .tc := ⟨.hbm, 229, rfl⟩
abbrev main_v65 : Ref sig .tc := ⟨.hbm, 230, rfl⟩
abbrev main_v66 : Ref sig .tc := ⟨.hbm, 231, rfl⟩
abbrev main_v67 : Ref sig .tc := ⟨.hbm, 232, rfl⟩
abbrev main_cst_10 : Ref sig .tc := ⟨.hbm, 233, rfl⟩
abbrev main_v68 : Ref sig .tc := ⟨.hbm, 234, rfl⟩
abbrev main_v69 : Ref sig .tc := ⟨.hbm, 235, rfl⟩
abbrev main_cst_11 : Ref sig .tc := ⟨.hbm, 236, rfl⟩
abbrev main_v70 : Ref sig .tc := ⟨.hbm, 237, rfl⟩
abbrev main_v71 : Ref sig .tc := ⟨.hbm, 238, rfl⟩
abbrev main_v72 : Ref sig .tc := ⟨.hbm, 239, rfl⟩
abbrev main_v73 : Ref sig .tc := ⟨.hbm, 240, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x5632 : Shape := ⟨2, ![8192, 5632]⟩
abbrev S4x5632x2048 : Shape := ⟨3, ![4, 5632, 2048]⟩
abbrev S8192x2048 : Shape := ⟨2, ![8192, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S4x5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x5632 : Shape := ⟨2, ![8192, 5632]⟩
abbrev S4x5632x2048 : Shape := ⟨3, ![4, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x512 : Shape := ⟨2, ![8192, 512]⟩
abbrev S8192x1024 : Shape := ⟨2, ![8192, 1024]⟩
abbrev S4x2048x2048 : Shape := ⟨3, ![4, 2048, 2048]⟩
abbrev S8192x2048 : Shape := ⟨2, ![8192, 2048]⟩
abbrev S2048x512 : Shape := ⟨2, ![2048, 512]⟩
abbrev S2048x1024 : Shape := ⟨2, ![2048, 1024]⟩
abbrev S1x512x512 : Shape := ⟨3, ![1, 512, 512]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S4x2048x2048, .f32⟩
  | .hbm, ⟨4, _⟩ => ⟨S8192x2048, .f32⟩
  | .hbm, ⟨5, _⟩ => ⟨S4x2048x2048, .bf16⟩
  | .hbm, ⟨6, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x512 : Shape := ⟨2, ![8192, 512]⟩
abbrev S8192x1024 : Shape := ⟨2, ![8192, 1024]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S4x2048x2048, .f32⟩
  | .hbm, ⟨4, _⟩ => ⟨S8192x2048, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x2048, .f32⟩
  | .hbm, ⟨9, _⟩ => ⟨S1x2048x2048, .f32⟩
  | .hbm, ⟨10, _⟩ => ⟨S2048x2048, .f32⟩
  | .hbm, ⟨11, _⟩ => ⟨S8192x2048, .f32⟩
  | .hbm, ⟨12, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S4x5760x2048 : Shape := ⟨3, ![4, 5760, 2048]⟩
abbrev S1x2048 : Shape := ⟨2, ![1, 2048]⟩
abbrev S8192x5760 : Shape := ⟨2, ![8192, 5760]⟩
abbrev S1024x2048 : Shape := ⟨2, ![1024, 2048]⟩
abbrev S1x1152x2048 : Shape := ⟨3, ![1, 1152, 2048]⟩
abbrev S1024x1152 : Shape := ⟨2, ![1024, 1152]⟩
abbrev S1024 : Shape := ⟨1, ![1024]⟩
abbrev S1024x1 : Shape := ⟨2, ![1024, 1]⟩
abbrev S1152x2048 : Shape := ⟨2, ![1152, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x5760x2048, .bf16⟩
  | .hbm, ⟨3, _⟩ => ⟨S1x2048, .f32⟩
  | .hbm, ⟨4, _⟩ => ⟨S8192x5760, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1152x2048, .bf16⟩
  | .local _ .vmem, ⟨4, _⟩ => ⟨S1x1152x2048, .bf16⟩
  | .local _ .vmem, ⟨5, _⟩ => ⟨S1024x1152, .f32⟩
  | .local _ .vmem, ⟨6, _⟩ => ⟨S1024x1152, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1152x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S4x5760x2048 : Shape := ⟨3, ![4, 5760, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x5760x2048 : Shape := ⟨3, ![1, 5760, 2048]⟩
abbrev S5760x2048 : Shape := ⟨2, ![5760, 2048]⟩
abbrev S8192x5760 : Shape := ⟨2, ![8192, 5760]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x5760x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x5760x2048, .bf16⟩
  | .hbm, ⟨20, _⟩ => ⟨S5760x2048, .bf16⟩
  | .hbm, ⟨21, _⟩ => ⟨S5760x2048, .f32⟩
  | .hbm, ⟨22, _⟩ => ⟨S8192x5760, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S4x2048x11264 : Shape := ⟨3, ![4, 2048, 11264]⟩
abbrev S4x3x11264 : Shape := ⟨3, ![4, 3, 11264]⟩
abbrev S1x2048 : Shape := ⟨2, ![1, 2048]⟩
abbrev S8192x5632 : Shape := ⟨2, ![8192, 5632]⟩
abbrev S1024x2048 : Shape := ⟨2, ![1024, 2048]⟩
abbrev S16x2048 : Shape := ⟨2, ![16, 2048]⟩
abbrev S1x2048x512 : Shape := ⟨3, ![1, 2048, 512]⟩
abbrev S1x3x512 : Shape := ⟨3, ![1, 3, 512]⟩
abbrev S1024x512 : Shape := ⟨2, ![1024, 512]⟩
abbrev S1040x512 : Shape := ⟨2, ![1040, 512]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S3x512 : Shape := ⟨2, ![3, 512]⟩
abbrev S2048x512 : Shape := ⟨2, ![2048, 512]⟩
abbrev S16x512 : Shape := ⟨2, ![16, 512]⟩
abbrev S40x512 : Shape := ⟨2, ![40, 512]⟩
abbrev S1x512 : Shape := ⟨2, ![1, 512]⟩
abbrev S32x512 : Shape := ⟨2, ![32, 512]⟩

abbrev nBuf : Space → Nat
  | .hbm => 7
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x11264, .f32⟩
  | .hbm, ⟨3, _⟩ => ⟨S4x3x11264, .f32⟩
  | .hbm, ⟨4, _⟩ => ⟨S1x2048, .f32⟩
  | .hbm, ⟨5, _⟩ => ⟨S4x2048x11264, .bf16⟩
  | .hbm, ⟨6, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | .local _ .vmem, ⟨16, _⟩ => ⟨S16x2048, .bf16⟩
  | .local _ .vmem, ⟨17, _⟩ => ⟨S1040x512, .f32⟩
  | .local _ .vmem, ⟨18, _⟩ => ⟨S1040x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8192x2048 : Shape := ⟨2, ![8192, 2048]⟩
abbrev S2048 : Shape := ⟨1, ![2048]⟩
abbrev S4x2048x11264 : Shape := ⟨3, ![4, 2048, 11264]⟩
abbrev S4x3x11264 : Shape := ⟨3, ![4, 3, 11264]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S4x2050x11264 : Shape := ⟨3, ![4, 2050, 11264]⟩
abbrev S1x11264 : Shape := ⟨2, ![1, 11264]⟩
abbrev S11264 : Shape := ⟨1, ![11264]⟩
abbrev S1x1x11264 : Shape := ⟨3, ![1, 1, 11264]⟩
abbrev S4x2048x5632 : Shape := ⟨3, ![4, 2048, 5632]⟩
abbrev S8192x5632 : Shape := ⟨2, ![8192, 5632]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x11264, .f32⟩
  | .hbm, ⟨3, _⟩ => ⟨S4x3x11264, .f32⟩
  | .hbm, ⟨4, _⟩ => ⟨S4x2048x2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S1x2048x11264, .f32⟩
  | .hbm, ⟨22, _⟩ => ⟨S2048x11264, .f32⟩
  | .hbm, ⟨23, _⟩ => ⟨S4x2048x11264, .f32⟩
  | .hbm, ⟨24, _⟩ => ⟨S1x3x11264, .f32⟩
  | .hbm, ⟨25, _⟩ => ⟨S3x11264, .f32⟩
  | .hbm, ⟨26, _⟩ => ⟨S_, .i32⟩
  | .hbm, ⟨27, _⟩ => ⟨S_, .f32⟩
  | .hbm, ⟨28, _⟩ => ⟨S4x2050x11264, .f32⟩
  | .hbm, ⟨29, _⟩ => ⟨S4x2048x11264, .f32⟩
  | .hbm, ⟨30, _⟩ => ⟨S1x11264, .f32⟩
  | .hbm, ⟨31, _⟩ => ⟨S11264, .f32⟩
  | .hbm, ⟨32, _⟩ => ⟨S1x1x11264, .f32⟩
  | .hbm, ⟨33, _⟩ => ⟨S4x2048x11264, .f32⟩
  | .hbm, ⟨34, _⟩ => ⟨S4x2048x11264, .f32⟩
  | .hbm, ⟨35, _⟩ => ⟨S_, .f32⟩
  | .hbm, ⟨36, _⟩ => ⟨S4x2048x11264, .f32⟩
  | .hbm, ⟨37, _⟩ => ⟨S4x2048x11264, .f32⟩
  | .hbm, ⟨38, _⟩ => ⟨S4x2048x11264, .f32⟩
  | .hbm, ⟨39, _⟩ => ⟨S1x11264, .f32⟩
  | .hbm, ⟨40, _⟩ => ⟨S11264, .f32⟩
  | .hbm, ⟨41, _⟩ => ⟨S1x1x11264, .f32⟩
  | .hbm, ⟨42, _⟩ => ⟨S4x2048x11264, .f32⟩
  | .hbm, ⟨43, _⟩ => ⟨S4x2048x11264, .f32⟩
  | .hbm, ⟨44, _⟩ => ⟨S4x2048x11264, .f32⟩
  | .hbm, ⟨45, _⟩ => ⟨S4x2048x11264, .f32⟩
  | .hbm, ⟨46, _⟩ => ⟨S1x11264, .f32⟩
  | .hbm, ⟨47, _⟩ => ⟨S11264, .f32⟩
  | .hbm, ⟨48, _⟩ => ⟨S1x1x11264, .f32⟩
  | .hbm, ⟨49, _⟩ => ⟨S4x2048x11264, .f32⟩
  | .hbm, ⟨50, _⟩ => ⟨S4x2048x11264, .f32⟩
  | .hbm, ⟨51, _⟩ => ⟨S4x2048x11264, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S_, .f32⟩
  | .hbm, ⟨57, _⟩ => ⟨S4x2048x5632, .f32⟩
  | .hbm, ⟨58, _⟩ => ⟨S4x2048x5632, .f32⟩
  | .hbm, ⟨59, _⟩ => ⟨S_, .f32⟩
  | .hbm, ⟨60, _⟩ => ⟨S4x2048x5632, .f32⟩
  | .hbm, ⟨61, _⟩ => ⟨S4x2048x5632, .f32⟩
  | .hbm, ⟨62, _⟩ => ⟨S4x2048x5632, .f32⟩
  | .hbm, ⟨63, _⟩ => ⟨S4x2048x5632, .f32⟩
  | .hbm, ⟨64, _⟩ => ⟨S8192x5632, .f32⟩
  | .hbm, ⟨65, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S4x2048x5664 : Shape := ⟨3, ![4, 2048, 5664]⟩
abbrev S4x5664x2048 : Shape := ⟨3, ![4, 5664, 2048]⟩
abbrev S4x5760x2048 : Shape := ⟨3, ![4, 5760, 2048]⟩
abbrev S1x5664x256 : Shape := ⟨3, ![1, 5664, 256]⟩
abbrev S1x5760x256 : Shape := ⟨3, ![1, 5760, 256]⟩
abbrev S1x2048x256 : Shape := ⟨3, ![1, 2048, 256]⟩
abbrev S2048x256 : Shape := ⟨2, ![2048, 256]⟩
abbrev S1x3584x256 : Shape := ⟨3, ![1, 3584, 256]⟩
abbrev S3584x256 : Shape := ⟨2, ![3584, 256]⟩
abbrev S1x8x256 : Shape := ⟨3, ![1, 8, 256]⟩
abbrev S8x256 : Shape := ⟨2, ![8, 256]⟩
abbrev S1x24x256 : Shape := ⟨3, ![1, 24, 256]⟩
abbrev S24x256 : Shape := ⟨2, ![24, 256]⟩
abbrev S96x256 : Shape := ⟨2, ![96, 256]⟩
abbrev S128x256 : Shape := ⟨2, ![128, 256]⟩
abbrev S1x128x256 : Shape := ⟨3, ![1, 128, 256]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x5664, .f32⟩
  | .hbm, ⟨1, _⟩ => ⟨S4x5664x2048, .f32⟩
  | .hbm, ⟨2, _⟩ => ⟨S4x5760x2048, .bf16⟩
  | .local _ .vmem, ⟨0, _⟩ => ⟨S1x5664x256, .f32⟩
  | .local _ .vmem, ⟨1, _⟩ => ⟨S1x5664x256, .f32⟩
  | .local _ .vmem, ⟨2, _⟩ => ⟨S1x5760x256, .bf16⟩
  | .local _ .vmem, ⟨3, _⟩ => ⟨S1x5760x256, .bf16⟩
  | _, _ => ⟨S4x2048x5664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x5664x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5760x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference7Ideal.lean ====
abbrev S4x2048x5664 : Shape := ⟨3, ![4, 2048, 5664]⟩
abbrev S_ : Shape := ⟨0, ![]⟩
abbrev S4x2048x96 : Shape := ⟨3, ![4, 2048, 96]⟩
abbrev S4x2048x2048 : Shape := ⟨3, ![4, 2048, 2048]⟩
abbrev S4x2048x3584 : Shape := ⟨3, ![4, 2048, 3584]⟩
abbrev S4x2048x8 : Shape := ⟨3, ![4, 2048, 8]⟩
abbrev S4x2048x24 : Shape := ⟨3, ![4, 2048, 24]⟩
abbrev S4x2048x5760 : Shape := ⟨3, ![4, 2048, 5760]⟩
abbrev S4x5760x2048 : Shape := ⟨3, ![4, 5760, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x5664, .f32⟩
  | .hbm, ⟨1, _⟩ => ⟨S_, .f32⟩
  | .hbm, ⟨2, _⟩ => ⟨S4x2048x96, .f32⟩
  | .hbm, ⟨3, _⟩ => ⟨S4x2048x2048, .f32⟩
  | .hbm, ⟨4, _⟩ => ⟨S4x2048x3584, .f32⟩
  | .hbm, ⟨5, _⟩ => ⟨S4x2048x8, .f32⟩
  | .hbm, ⟨6, _⟩ => ⟨S4x2048x24, .f32⟩
  | .hbm, ⟨7, _⟩ => ⟨S4x2048x5760, .f32⟩
  | .hbm, ⟨8, _⟩ => ⟨S4x5760x2048, .f32⟩
  | .hbm, ⟨9, _⟩ => ⟨S4x5760x2048, .bf16⟩
  | _, _ => ⟨S4x2048x5664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Grid.lean ====
module
public import Idealize.ShloMosaic.Lib.Claim
public import Idealize.ShloMosaic.Lib.Pipeline.ValueKit

/-! Reading arrays in rows and columns: an index is known by its coordinates. Used by the proofs of the blocked
    matrix products. -/

@[expose] public section

open Idealize.ShloMosaic

namespace Blocked

/-- An index of an array of rank two whose coordinates are known. -/
theorem at2 {A B : ℕ} (e : (⟨2, ![A, B]⟩ : Shape).Idx) {i : Fin A} {j : Fin B}
    (hi : (e 0).val = i.val) (hj : (e 1).val = j.val) : e = ix2 i j := by
  rw [eq_ix2 e]
  congr 1 <;> exact Fin.ext (by assumption)

/-- An index of an array of rank three whose coordinates are known. -/
theorem at3 {A B C : ℕ} (e : (⟨3, ![A, B, C]⟩ : Shape).Idx) {i : Fin A} {j : Fin B} {k : Fin C}
    (hi : (e 0).val = i.val) (hj : (e 1).val = j.val) (hk : (e 2).val = k.val) : e = ix3 i j k := by
  rw [eq_ix3 e]
  congr 1 <;> exact Fin.ext (by assumption)

/-- A load of a whole block reads the block. -/
theorem load_whole {sig : RefSig} {κ : Kind} {sp : Space} {S : Shape} {e : EltTy} (a : Memref sig κ sp S e) (h : a.IsWhole)
    {off : Fin S.rank → Nat} (h0 : off = fun _ => 0) (inb : ∀ b, off b + S.size b ≤ S.size b) (X : S.Idx → Elt Ideal e) :
    View.readAt (Elt Ideal) a.view (Rect.unit off S.size inb).toLoadRect (h.unread X) = X :=
  (congrArg (fun x => View.ld x _) (h.read_unread X)).trans (View.ld_unit_zero h0 inb X)

/-- A row over the root of its mean square, scaled. -/
noncomputable def nrm (v w : Fin 2048 → EReal) (d : Fin 2048) : EReal :=
  v d * Ideal.rsqrt (Ideal.div (∑ k, v k * v k) (Ideal.ofBits .f32 0x45000000#32) + Ideal.ofBits .f32 0x358637BD#32) * w d

end Blocked
-- ==== Proof.Norm.lean ====
module
public import proofs.«01_k».proof.Proof.Grid
public import proofs.«01_k».proof.Proof.Gen.Kernel6Ideal.Value
public import proofs.«01_k».proof.Proof.Gen.Reference6Ideal.Run

/-! The final normalisation: every row of a block over the root of its mean square. -/

@[expose] public section

set_option maxRecDepth 16384

open Idealize.ShloMosaic Idealize.ShloMosaic.TcCoe Idealize.SL.Sem

namespace Blocked.Norm

noncomputable section

/-- The call's result, index by index. -/
def rows (x : FVec Ideal ⟨2, ![8192, 2048]⟩ .f32) (n : FVec Ideal ⟨1, ![2048]⟩ .f32) (r : Fin 8192) (d : Fin 2048) : EReal :=
  nrm (fun k => x (ix2 r k)) (fun k => n (ix1 k)) d

section
open Cert.Kernel6Ideal Cert.Kernel6Ideal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem flushes : ∀ t : Fin cfg0.N, (cfg0.win 2).flush t = true := (by decide +kernel : ∀ t : Fin grid0.N, _)

/-- The body's result from its two blocks. -/
theorem body (x : Vec Ideal S512x2048 .f32) (w : Vec Ideal S1x2048 .f32) (r : Fin 512) (d : Fin 2048) :
    out0_2 x w (ix2 r d) = nrm (fun k => x (ix2 r k)) (fun k => w (ix2 0 k)) d := by
  unfold out0_2
  rw [View.canon_cons_unit_lit, View.ld_unit_lit, View.ld_unit_lit]
  · unfold k0_pay1
    pointwise
    rfl
  all_goals exact fun a => by fin_cases a <;> rfl

theorem block0 (c : Dev nD) (t : Fin cfg0.N) (r : Fin 512) (d : Fin 2048) (R : Fin 8192) (hR : R.val = t.val * 512 + r.val) :
    iblk m c 0 t (ix2 r d) = m ((c : Thread nD τ).loc main_arg0) (ix2 R d) := by
  rw [← V_main_arg0 m c]
  refine congrArg (V m c main_arg0) (at2 _ ?_ ?_)
  · show win0_0.index t (0 : Fin 2) * 512 + 1 * r.val = _
    rw [congrFun (places t).1 0, hR]
    simp
  · show win0_0.index t (1 : Fin 2) * 2048 + 1 * d.val = _
    rw [congrFun (places t).1 1]
    simp

theorem scales (c : Dev nD) (d : Fin 2048) : V m c main_v0 (ix2 0 d) = m ((c : Thread nD τ).loc main_arg1) (ix1 d) := by
  entry_read
  pointwise

theorem block1 (c : Dev nD) (t : Fin cfg0.N) (d : Fin 2048) :
    iblk m c 1 t (ix2 0 d) = m ((c : Thread nD τ).loc main_arg1) (ix1 d) := by
  rw [← scales m c]
  refine congrArg (V m c main_v0) (at2 _ ?_ ?_)
  · show win0_1.index t (0 : Fin 2) * 1 + 1 * 0 = _
    rw [congrFun (places t).2.1 0]
    simp
  · show win0_1.index t (1 : Fin 2) * 2048 + 1 * d.val = _
    rw [congrFun (places t).2.1 1]
    simp

/-- The kernel's result at an index of the block of grid point `t`. -/
theorem kernel_block (c : Dev nD) (t : Fin cfg0.N) (r : Fin 512) (d : Fin 2048) (R : Fin 8192) (hR : R.val = t.val * 512 + r.val) :
    (dats m 0 c).arrAt 2 cfg0.N (ix2 R d) = rows (m ((c : Thread nD τ).loc main_arg0)) (m ((c : Thread nD τ).loc main_arg1)) R d := by
  have h := congrFun (Cert.Kernel6Ideal.Value.blocks2 m c t (flushes t)) (ix2 r d)
  rw [Cert.Kernel6Ideal.Value.flushed2] at h
  refine Eq.trans (congrArg ((dats m 0 c).arrAt 2 cfg0.N) (at2 (((cfg0.win 2).blk t).view.emb (ix2 r d)) ?_ ?_).symm) (h.trans ?_)
  · show win0_2.index t (0 : Fin 2) * 512 + 1 * r.val = _
    rw [congrFun (places t).2.2 0, hR]
    simp
  · show win0_2.index t (1 : Fin 2) * 2048 + 1 * d.val = _
    rw [congrFun (places t).2.2 1]
    simp
  · refine (body _ _ r d).trans ?_
    unfold rows
    exact congrArg₂ (fun v w => nrm v w d) (funext fun k => block0 m c t r k R hR) (funext fun k => block1 m c t k)

/-- The kernel's result at an index. -/
theorem kernel_apply (c : Dev nD) (r : Fin 8192) (d : Fin 2048) :
    (dats m 0 c).arrAt 2 cfg0.N (ix2 r d) = rows (m ((c : Thread nD τ).loc main_arg0)) (m ((c : Thread nD τ).loc main_arg1)) r d := by
  have hr := r.isLt
  have ht : r.val / 512 < 16 := by omega
  exact kernel_block m c (⟨r.val / 512, ht⟩ : Fin cfg0.N) ⟨r.val % 512, by omega⟩ d r (by dsimp only; omega)

end

section
open Cert.Reference6Ideal Cert.Reference6Ideal.Gen

/-- The reference's result at an index. -/
theorem ref_apply (x : FVec Ideal S8192x2048 .f32) (n : FVec Ideal S2048 .f32) (r : Fin 8192) (d : Fin 2048) :
    mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 n)) (ix2 r d)
      = rows x n r d := by
  pointwise
  rfl

end

end

end Blocked.Norm
-- ==== Proof.Reorder.lean ====
module
public import proofs.«01_k».proof.Proof.Grid
public import proofs.«01_k».proof.Proof.Gen.Kernel7Ideal.Value
public import proofs.«01_k».proof.Proof.Gen.Reference7Ideal.Run

/-! The layout of the input weights: which column of the weights each row of the result is, and zero below them. -/

@[expose] public section

set_option maxRecDepth 16384

open Idealize.ShloMosaic Idealize.ShloMosaic.TcCoe Idealize.SL.Sem

namespace Blocked.Reorder

noncomputable section

/-- Row `n` of a layout that reads `f`. -/
def place (f : Fin 5664 → EReal) (n : Fin 5760) : EReal :=
  if h : n.val < 2048 then f ⟨n.val, by omega⟩
  else if h : n.val < 5632 then f ⟨n.val + 8, by omega⟩
  else if h : n.val < 5640 then f ⟨n.val - 3584, by omega⟩
  else if h : n.val < 5664 then f ⟨n.val, h⟩
  else 0

/-- The call's result, index by index. -/
def laid (w : FVec Ideal ⟨3, ![4, 2048, 5664]⟩ .f32) (b : Fin 4) (n : Fin 5760) (d : Fin 2048) : EReal := place (fun l => w (ix3 b d l)) n

section
open Cert.Kernel7Ideal Cert.Kernel7Ideal.Gen

variable (m : (ℓ : Loc nD τ sig) → Buf (Elt Ideal) ℓ)

theorem places : ∀ t : Fin cfg0.N, win0_0.index t = ![t.val / 8, 0, t.val % 8] ∧ win0_1.index t = ![t.val / 8, 0, t.val % 8] :=
  (by decide +kernel : ∀ t : Fin grid0.N, _)

theorem flushes : ∀ t : Fin cfg0.N, (cfg0.win 1).flush t = true := (by decide +kernel : ∀ t : Fin grid0.N, _)

theorem first_rows (x : Vec Ideal S1x2048x256 .f32) (n : Fin 2048) (l : Fin 256) : k0_pay1 x (ix3 0 n l) = x (ix3 0 n l) := by
  unfold k0_pay1
  pointwise

theorem next_rows (x : Vec Ideal S1x3584x256 .f32) (n : Fin 3584) (l : Fin 256) : k0_pay2 x (ix3 0 n l) = x (ix3 0 n l) := by
  unfold k0_pay2
  pointwise

theorem last_rows (x : Vec Ideal S1x8x256 .f32) (y : Vec Ideal S1x24x256 .f32) (n : Fin 128) (l : Fin 256) :
    k0_pay3 x y (ix3 0 n l) = if h : n.val < 8 then x (ix3 0 ⟨n.val, h⟩ l) else if h : n.val < 32 then y (ix3 0 ⟨n.val - 8, by omega⟩ l)
      else 0 := by
  unfold k0_pay3
  pointwise
  have hn : n.val - 8 < 24 ↔ n.val < 32 := by omega
  by_cases h : n.val < 8
  · rw [dif_pos h, dif_pos h]
  · rw [dif_neg h, dif_neg h]
    simp only [hn]

/-- A load of some rows of a block reads them. -/
theorem load_rows {a : ℕ} (v : Memref sig .tc .vmem S1x5664x256 .f32) (hv : v.IsWhole) (o : ℕ) (inb) (X : Vec Ideal S1x5664x256 .f32) (n : Fin a) (l : Fin 256)
    (k : Fin 5664) (hk : k.val = o + n.val) :
    View.readAt (Elt Ideal) v.view (Rect.unit (s := S1x5664x256) ![0, o, 0] ![1, a, 256] inb).toLoadRect (hv.unread X) (ix3 0 n l) = X (ix3 0 k l) := by
  refine (congrFun (congrArg (fun x => View.ld x _) (hv.read_unread X)) _).trans ?_
  refine congrArg X (at3 _ ?_ ?_ ?_)
  · show 0 + 1 * 0 = 0
    rfl
  · show o + 1 * n.val = _
    omega
  · show 0 + 1 * l.val = _
    omega

/-- The block that a grid point leaves. -/
theorem body (c : Dev nD) (i : grid0.Coords) (arg2 : Memref sig .tc .vmem S1x5664x256 .f32) (harg2 : arg2.IsWhole) (arg3 : Memref sig .tc .vmem S1x5760x256 .bf16) (harg3 : arg3.IsWhole)
    (x0 : Vec Ideal S1x5664x256 .f32) (n : Fin 5760) (l : Fin 256) :
    out0_A_1 c i arg2 harg2 arg3 harg3 x0 (ix3 0 n l) = place (fun k => x0 (ix3 0 k l)) n := by
  unfold out0_A_1
  rw [View.read_writes_eq_canon _ _ _ (cover0_A_1 c i arg2 harg2 arg3 harg3 x0)]
  refine View.canon_apply_of_pieces (Val := Elt Ideal) (S := S1x5760x256) (e := .bf16) (fun y => place (fun k => x0 (ix3 0 k (y 2))) (y 1)) _ ?_ _ (cover0_A_1 c i arg2 harg2 arg3 harg3 x0 _)
  unfold kernelRun0_A
  dsimp only
  sl_unfold_words
  have hy : ∀ (a o : ℕ) (inb) (r : Fin a) (q : Fin 256) (N : Fin 5760), N.val = o + r.val →
      place (fun k => x0 (ix3 0 k ((Rect.unit (s := S1x5760x256) ![0, o, 0] ![1, a, 256] inb).emb (ix3 0 r q) 2)))
        ((Rect.unit (s := S1x5760x256) ![0, o, 0] ![1, a, 256] inb).emb (ix3 0 r q) 1) = place (fun k => x0 (ix3 0 k q)) N := by
    intro a o inb r q N hN
    refine congrArg₂ (fun (q : Fin 256) N => place (fun k => x0 (ix3 0 k q)) N) (Fin.ext ?_) (Fin.ext ?_)
    · show 0 + 1 * q.val = _
      omega
    · show o + 1 * r.val = _
      omega
  simp only [List.forall_mem_cons]
  refine ⟨fun x => ?_, fun x => ?_, fun x => ?_, by simp⟩
  · obtain ⟨r, q, rfl⟩ : ∃ (r : Fin 128) (q : Fin 256), x = ix3 0 r q := ⟨x 1, x 2, at3 x (Nat.lt_one_iff.mp (x 0).isLt) rfl rfl⟩
    refine Eq.trans ?_ (hy 128 5632 _ r q ⟨5632 + r.val, by omega⟩ rfl).symm
    refine (last_rows _ _ r q).trans ?_
    unfold place
    dsimp only
    rw [dif_neg (show ¬5632 + r.val < 2048 by omega), dif_neg (show ¬5632 + r.val < 5632 by omega)]
    by_cases h : r.val < 8
    · rw [dif_pos h, dif_pos (show 5632 + r.val < 5640 by omega)]
      exact load_rows _ _ 2048 _ _ _ _ _ (by dsimp only; omega)
    · rw [dif_neg h, dif_neg (show ¬5632 + r.val < 5640 by omega)]
      by_cases h' : r.val < 32
      · rw [dif_pos h', dif_pos (show 5632 + r.val < 5664 by omega)]
        exact load_rows _ _ 5640 _ _ _ _ _ (by dsimp only; omega)
      · rw [dif_neg h', dif_neg (show ¬5632 + r.val < 5664 by omega)]
  · obtain ⟨r, q, rfl⟩ : ∃ (r : Fin 3584) (q : Fin 256), x = ix3 0 r q := ⟨x 1, x 2, at3 x (Nat.lt_one_iff.mp (x 0).isLt) rfl rfl⟩
    refine Eq.trans ?_ (hy 3584 2048 _ r q ⟨2048 + r.val, by omega⟩ rfl).symm
    refine (next_rows _ r q).trans ?_
    unfold place
    dsimp only
    rw [dif_neg (show ¬2048 + r.val < 2048 by omega), dif_pos (show 2048 + r.val < 5632 by omega)]
    exact load_rows _ _ 2056 _ _ _ _ _ (by dsimp only; omega)
  · obtain ⟨r, q, rfl⟩ : ∃ (r : Fin 2048) (q : Fin 256), x = ix3 0 r q := ⟨x 1, x 2, at3 x (Nat.lt_one_iff.mp (x 0).isLt) rfl rfl⟩
    refine Eq.trans ?_ (hy 2048 0 _ r q ⟨r.val, by omega⟩ (by dsimp only; omega)).symm
    refine (first_rows _ r q).trans ?_
    unfold place
    dsimp only
    rw [dif_pos r.isLt]
    exact load_rows _ _ 0 _ _ _ _ _ (by dsimp only; omega)

theorem turned (c : Dev nD) (b : Fin 4) (n : Fin 5664) (d : Fin 2048) : V m c main_v0 (ix3 b n d) = m ((c : Thread nD τ).loc main_arg0) (ix3 b d n) := by
  entry_read
  pointwise

theorem block0 (c : Dev nD) (t : Fin cfg0.N) (n : Fin 5664) (l : Fin 256) (b : Fin 4) (d : Fin 2048) (hb : b.val = t.val / 8) (hd : d.val = t.val % 8 * 256 + l.val) :
    iblk m c 0 t (ix3 0 n l) = m ((c : Thread nD τ).loc main_arg0) (ix3 b d n) := by
  rw [← turned m c]
  refine congrArg (V m c main_v0) (at3 _ ?_ ?_ ?_)
  · show win0_0.index t (0 : Fin 3) * 1 + 1 * 0 = _
    rw [congrFun (places t).1 0, hb]
    simp
  · show win0_0.index t (1 : Fin 3) * 5664 + 1 * n.val = _
    rw [congrFun (places t).1 1]
    simp
  · show win0_0.index t (2 : Fin 3) * 256 + 1 * l.val = _
    rw [congrFun (places t).1 2, hd]
    simp

/-- The kernel's result at an index of the block of grid point `t`. -/
theorem kernel_block (c : Dev nD) (t : Fin cfg0.N) (n : Fin 5760) (l : Fin 256) (b : Fin 4) (d : Fin 2048) (hb : b.val = t.val / 8) (hd : d.val = t.val % 8 * 256 + l.val) :
    (dats m 0 c).arrAt 1 cfg0.N (ix3 b n d) = laid (m ((c : Thread nD τ).loc main_arg0)) b n d := by
  have h := congrFun (Cert.Kernel7Ideal.Value.blocks1 m c t (flushes t)) (ix3 0 n l)
  rw [Cert.Kernel7Ideal.Value.flushed1_A] at h
  refine Eq.trans (congrArg ((dats m 0 c).arrAt 1 cfg0.N) (at3 (((cfg0.win 1).blk t).view.emb (ix3 0 n l)) ?_ ?_ ?_).symm) (h.trans ?_)
  · show win0_1.index t (0 : Fin 3) * 1 + 1 * 0 = _
    rw [congrFun (places t).2 0, hb]
    simp
  · show win0_1.index t (1 : Fin 3) * 5760 + 1 * n.val = _
    rw [congrFun (places t).2 1]
    simp
  · show win0_1.index t (2 : Fin 3) * 256 + 1 * l.val = _
    rw [congrFun (places t).2 2, hd]
    simp
  · refine (body c (grid0.coords t) _ _ _ _ _ n l).trans ?_
    unfold laid
    exact congrArg (place · n) (funext fun k => block0 m c t k l b d hb hd)

/-- The kernel's result at an index. -/
theorem kernel_apply (c : Dev nD) (b : Fin 4) (n : Fin 5760) (d : Fin 2048) :
    (dats m 0 c).arrAt 1 cfg0.N (ix3 b n d) = laid (m ((c : Thread nD τ).loc main_arg0)) b n d := by
  have hb := b.isLt
  have hd := d.isLt
  have ht : b.val * 8 + d.val / 256 < 32 := by omega
  exact kernel_block m c (⟨b.val * 8 + d.val / 256, ht⟩ : Fin cfg0.N) n ⟨d.val % 256, by omega⟩ b d (by dsimp only; omega) (by dsimp only; omega)

end

section
open Cert.Reference7Ideal Cert.Reference7Ideal.Gen

/-- The reference's result at an index. -/
theorem ref_apply (w : FVec Ideal S4x2048x5664 .f32) (b : Fin 4) (n : Fin 5760) (d : Fin 2048) :
    (truncf .bf16 (transpose S4x5760x2048 [0, 2, 1] ((concatenate S4x2048x5760 2 [⟨S4x2048x2048, extractStridedSlice S4x2048x2048 ![0, 0, 0] w slices_S4x2048x5664_S4x2048x2048_0_0_0⟩, ⟨S4x2048x3584, extractStridedSlice S4x2048x3584 ![0, 0, 2056] w slices_S4x2048x5664_S4x2048x3584_0_0_2056⟩, ⟨S4x2048x8, extractStridedSlice S4x2048x8 ![0, 0, 2048] w slices_S4x2048x5664_S4x2048x8_0_0_2048⟩, ⟨S4x2048x24, extractStridedSlice S4x2048x24 ![0, 0, 5640] w slices_S4x2048x5664_S4x2048x24_0_0_5640⟩, ⟨S4x2048x96, broadcastInDim S4x2048x96 ![] bcast_S_S4x2048x96 (constant S_ .f32 0x00000000#32)⟩] concatenates_S4x2048x2048_S4x2048x3584_S4x2048x8_S4x2048x24_S4x2048x96_S4x2048x5760_d2 : FVec Ideal S4x2048x5760 .f32)) transposes_S4x2048x5760_S4x5760x2048_0_2_1) bitsLt_bf16_f32 : FVec Ideal S4x5760x2048 .bf16) (ix3 b n d)
      = laid w b n d := by
  pointwise
  unfold laid place
  by_cases h : n.val < 2048
  · rw [dif_pos h, dif_pos h]
  rw [dif_neg h, dif_neg h]
  by_cases h1 : n.val < 5632
  · rw [dif_pos (show n.val - 2048 < 3584 by omega), dif_pos h1]
    exact congrArg (fun k => w (ix3 b d k)) (Fin.ext (show 2056 + (n.val - 2048) = n.val + 8 by omega))
  rw [dif_neg (show ¬n.val - 2048 < 3584 by omega), dif_neg h1]
  by_cases h2 : n.val < 5640
  · rw [dif_pos (show n.val - 2048 - 3584 < 8 by omega), dif_pos h2]
    exact congrArg (fun k => w (ix3 b d k)) (Fin.ext (show 2048 + (n.val - 2048 - 3584) = n.val - 3584 by omega))
  rw [dif_neg (show ¬n.val - 2048 - 3584 < 8 by omega), dif_neg h2]
  by_cases h3 : n.val < 5664
  · rw [dif_pos (show n.val - 2048 - 3584 - 8 < 24 by omega), dif_pos h3]
    exact congrArg (fun k => w (ix3 b d k)) (Fin.ext (show 5640 + (n.val - 2048 - 3584 - 8) = n.val by omega))
  · rw [dif_neg (show ¬n.val - 2048 - 3584 - 8 < 24 by omega), dif_neg h3]

end

end

end Blocked.Reorder
-- ==== Proof.Chunk.lean ====
module
public import Idealize.ShloMosaic.Lib.Pointwise.Tactic
public import Idealize.ShloMosaic.Lib.Pointwise
public import Idealize.ShloMosaic.Lib.WordCmp

/-! One chunk of the mLSTM recurrence over the extended reals: for one head of one batch entry, the
    outputs of 64 consecutive positions from the state before them, and the state after them. -/

@[expose] public section

noncomputable section

open Idealize.ShloMosaic

namespace MLstm

/-- The constant both programs mask with: minus infinity. -/
abbrev ninf : EReal := Ideal.ofBits FTy.f32 4286578688#32

/-- The state of one head: matrix memory, normaliser, running maximum. -/
structure St where
  C : Fin 128 → Fin 128 → EReal
  n : Fin 128 → EReal
  m : EReal

/-- The state before the first chunk. -/
def St.init : St := ⟨fun _ _ => 0, fun _ => 0, ninf⟩

section
variable (q k v : Fin 64 → Fin 128 → EReal) (b i : Fin 64 → EReal) (S : St)

/-- The log weight of position `t` in position `s`, masked to the past. -/
def dm (s t : Fin 64) : EReal := if t ≤ s then b s - b t + i t else ninf

/-- The stabiliser of position `s`. -/
def mt (s : Fin 64) : EReal := max (b s + S.m) (Finset.fold max ninf (fun t => dm b i s t) Finset.univ)

/-- The weight of position `t` in position `s`. -/
def sc (s t : Fin 64) : EReal := (∑ e, q s e * k t e) * Ideal.exp (dm b i s t - mt b i S s)

/-- The weight of the carried state in position `s`. -/
def wi (s : Fin 64) : EReal := Ideal.exp (b s + S.m - mt b i S s)

/-- The normaliser of position `s`. -/
def den (s : Fin 64) : EReal := (∑ t, sc q k b i S s t) + wi b i S s * ∑ e, q s e * S.n e

/-- The output of position `s`, lane `d`. -/
def hh (s : Fin 64) (d : Fin 128) : EReal :=
  Ideal.div ((∑ t, sc q k b i S s t * v t d) + wi b i S s * ∑ e, q s e * S.C e d)
    (max (max (den q k b i S s) (-den q k b i S s)) (Ideal.exp (0 - mt b i S s)))

/-- The log weight of position `t` in the state after the chunk. -/
def gg (t : Fin 64) : EReal := b 63 - b t + i t

/-- The running maximum after the chunk. -/
def mNew : EReal := max (b 63 + S.m) (Finset.fold max ninf (fun t => gg b i t) Finset.univ)

/-- The weight of position `t` in the state after the chunk. -/
def wk (t : Fin 64) : EReal := Ideal.exp (gg b i t - mNew b i S)

/-- The factor the old state decays by. -/
def dec : EReal := Ideal.exp (b 63 + S.m - mNew b i S)

/-- The state after the chunk. -/
def St.next : St where
  C e d := dec b i S * S.C e d + ∑ t, k t e * (wk b i S t * v t d)
  n d := dec b i S * S.n d + ∑ t, wk b i S t * k t d
  m := mNew b i S

end

/-- The normalised output of one head: mean taken off, divided by the deviation, scaled. -/
def gn (x w : Fin 128 → EReal) (d : Fin 128) : EReal :=
  let mean := Ideal.div (∑ e, x e) (Ideal.ofBits FTy.f32 1124073472#32)
  (x d - mean) * Ideal.rsqrt (Ideal.div (∑ e, (x e - mean) * (x e - mean)) (Ideal.ofBits FTy.f32 1124073472#32)
    + Ideal.ofBits FTy.f32 897988541#32) * w d

/-- The state before chunk `j`, from the chunks' keys, values, summed log forget gates and input gates. -/
def states (K V : ℕ → Fin 64 → Fin 128 → EReal) (B I : ℕ → Fin 64 → EReal) : ℕ → St
  | 0 => St.init
  | j + 1 => (states K V B I j).next (K j) (V j) (B j) (I j)

/-- The logarithm of the sigmoid. -/
def lsig (z : EReal) : EReal := min z 0 - Ideal.log1p (Ideal.exp (0 - max z (-z)))

/-- The sum of the entries up to `s`. -/
def pre (f : Fin 64 → EReal) (s : Fin 64) : EReal := ∑ t ∈ Finset.range (s.val + 1), f (Fin.ofNat 64 t)

/-- The causal mask, as a choice. -/
theorem select_mask {α : Type} (s t : Fin 64) (x y : α) :
    Scalar.select (IntOp.cmpi .sle (BitVec.ofNat 32 t.val) (BitVec.ofNat 32 s.val)) x y = if t ≤ s then x else y := by
  rw [WordCmp.cmpi_sle_ofNat (by omega) (by omega)]
  by_cases h : t ≤ s
  · simp [h, Scalar.select]
  · simp [h, Scalar.select]

/-! ### Prefix sums by doubling -/

/-- The sum of the `n` entries ending at row `r`, those of `r`'s own chunk only. -/
def win (f : ℕ → EReal) (n r : ℕ) : EReal := ∑ j ∈ Finset.range (min n (r % 64 + 1)), f (r - j)

theorem win_one (f : ℕ → EReal) (r : ℕ) : win f 1 r = f r := by
  simp [win]

theorem win_double (f : ℕ → EReal) (n r : ℕ) (hn : n ≤ 64) (hr : r < 128) :
    win f n r + (if n ≤ r % 64 then win f n (r - n) else 0) = win f (2 * n) r := by
  unfold win
  split
  · next h =>
    have e1 : min n (r % 64 + 1) = n := by omega
    have e2 : min (2 * n) (r % 64 + 1) = n + min n ((r - n) % 64 + 1) := by omega
    rw [e1, e2, Finset.sum_range_add]
    exact congrArg _ (Finset.sum_congr rfl fun j _ => congrArg f (by omega))
  · next h =>
    have e1 : min n (r % 64 + 1) = min (2 * n) (r % 64 + 1) := by omega
    rw [e1, add_zero]

/-- After six doublings the window is the whole chunk up to the row. -/
theorem win_full (f : ℕ → EReal) (c : ℕ) (s : Fin 64) :
    win f 64 (64 * c + s.val) = pre (fun t => f (64 * c + t.val)) s := by
  have hs := s.isLt
  have e : min 64 ((64 * c + s.val) % 64 + 1) = s.val + 1 := by omega
  rw [win, e, pre, ← Finset.sum_range_reflect]
  refine Finset.sum_congr rfl fun j hj => ?_
  have hj' := Finset.mem_range.1 hj
  show f _ = f _
  congr 1
  have : (Fin.ofNat 64 j).val = j := Nat.mod_eq_of_lt (by omega)
  rw [this]; omega

/-! ### The two forms of the logarithm of the sigmoid -/

theorem log_ne_bot {x : EReal} (h : 0 < x) : Ideal.log x ≠ ⊥ := by
  induction x with
  | bot => simp at h
  | top => exact top_ne_bot
  | coe r =>
    have hr : ¬ r ≤ 0 := not_le.2 (by exact_mod_cast h)
    show (if r ≤ 0 then ⊥ else (Real.log r : EReal)) ≠ ⊥
    rw [if_neg hr]
    exact EReal.coe_ne_bot _

theorem exp_nonneg (x : EReal) : 0 ≤ Ideal.exp x := by
  induction x with
  | bot => exact le_refl (0 : EReal)
  | top => exact le_top
  | coe r => exact EReal.coe_nonneg.2 (Real.exp_pos r).le

/-- Minus the softplus of minus `z`, as jax writes it, is the logarithm of the sigmoid. -/
theorem neg_softplus (z : EReal) :
    -(max (-z) 0 + Ideal.log1p (Ideal.exp (-max (-z - 0) (-(-z - 0))))) = lsig z := by
  have hl : Ideal.log1p (Ideal.exp (-max (-z - 0) (-(-z - 0)))) ≠ ⊥ :=
    log_ne_bot (lt_of_lt_of_le zero_lt_one (le_add_of_nonneg_right (exp_nonneg _)))
  have h0 : max (-z) 0 ≠ ⊥ := ne_of_gt (lt_of_lt_of_le EReal.bot_lt_zero (le_max_right _ _))
  rw [EReal.neg_add (Or.inl h0) (Or.inr hl)]
  have e1 : -max (-z) 0 = min z 0 := by
    rcases le_total z 0 with h | h
    · rw [max_eq_left (by simpa using EReal.neg_le_neg_iff.2 h), neg_neg, min_eq_left h]
    · rw [max_eq_right (by simpa using EReal.neg_le_neg_iff.2 h), min_eq_right h, neg_zero]
  rw [e1, lsig]
  simp only [sub_zero, neg_neg, zero_sub, max_comm]

end MLstm
-- ==== Proof.KernelChunk.lean ====
module
public import proofs.«01_k».proof.Proof.Gen.KernelIdeal.Value
public import proofs.«01_k».proof.Proof.Chunk

/-! The kernel's arithmetic of one chunk, all sixteen heads at once, read at an index: it is the
    recurrence's. -/

@[expose] public section

set_option maxRecDepth 16384

open Cert.KernelIdeal Cert.KernelIdeal.Gen Idealize.ShloMosaic Idealize.ShloMosaic.TcCoe Idealize.SL.Sem

namespace MLstm

noncomputable section

/-- A head's slice of a stack of matrices. -/
abbrev mat {B C : ℕ} (x : FVec Ideal ⟨3, ![16, B, C]⟩ .f32) (p : Fin 16) : Fin B → Fin C → EReal := fun s e => x (ix3 p s e)

/-- A head's slice of a stack of columns. -/
abbrev col (x : FVec Ideal S16x64x1 .f32) (p : Fin 16) : Fin 64 → EReal := fun s => x (ix3 p s 0)

/-- A head's state, from the three stacks. -/
abbrev stOf (C : FVec Ideal S16x128x128 .f32) (n : FVec Ideal S16x1x128 .f32) (m : FVec Ideal S16x1x1 .f32) (p : Fin 16) : St :=
  ⟨fun e d => C (ix3 p e d), fun d => n (ix3 p 0 d), m (ix3 p 0 0)⟩

variable (C : FVec Ideal S16x128x128 .f32) (n : FVec Ideal S16x1x128 .f32) (m : FVec Ideal S16x1x1 .f32)
  (q k v : FVec Ideal S16x64x128 .f32) (kT : FVec Ideal S16x128x64 .f32) (b i : FVec Ideal S16x64x1 .f32)

theorem absf_eq (x : EReal) : (FloatOps.absf (F := Ideal) (φ := .f32) x : EReal) = max x (-x) := rfl

theorem out1 (D : FVec Ideal S16x64x64 .f32)
    (hD : ∀ p s t, D (ix3 p s t) = b (ix3 p s 0) - b (ix3 p t 0) + i (ix3 p t 0)) (p : Fin 16) (s : Fin 64) (d : Fin 128) :
    k0_pay161 (F := Ideal) C n m q k v b (k0_pay159 k0_pay5) D (Scalar.ofBits (F := Ideal) .f32 0xFF800000#32) (ix3 p s d)
      = hh (mat q p) (mat k p) (mat v p) (col b p) (col i p) (stOf C n m p) s d := by
  unfold_payloads
  pointwise
  simp only [select_mask, hD, absf_eq]
  rfl

theorem out2 (D : FVec Ideal S16x64x64 .f32)
    (hD : ∀ p s t, D (ix3 p s t) = if t ≤ s then b (ix3 p s 0) - b (ix3 p t 0) + i (ix3 p t 0) else ninf)
    (p : Fin 16) (s : Fin 64) (d : Fin 128) :
    k0_pay257 (F := Ideal) C n q k v b D (k0_pay256 (F := Ideal) m) (ix3 p s d)
      = hh (mat q p) (mat k p) (mat v p) (col b p) (col i p) (stOf C n m p) s d := by
  unfold_payloads
  pointwise
  simp only [hD, absf_eq]
  rfl

theorem m1 (p : Fin 16) :
    k0_pay164 (F := Ideal) m b i (ix3 p 0 0) = mNew (col b p) (col i p) (stOf C n m p) := by
  unfold_payloads
  pointwise
  rfl

theorem C1 (hk : ∀ p e t, kT (ix3 p e t) = k (ix3 p t e)) (p : Fin 16) (e d : Fin 128) :
    k0_pay168 (F := Ideal) C m kT v (k0_pay162 (F := Ideal) b) (k0_pay164 (F := Ideal) m b i) (k0_pay165 (F := Ideal) m b i) (ix3 p e d)
      = (St.next (mat k p) (mat v p) (col b p) (col i p) (stOf C n m p)).C e d := by
  unfold_payloads
  pointwise
  simp only [hk]
  rfl

theorem n1 (p : Fin 16) (d : Fin 128) :
    k0_pay169 (F := Ideal) n m k (k0_pay162 (F := Ideal) b) (k0_pay164 (F := Ideal) m b i) (k0_pay165 (F := Ideal) m b i) (ix3 p 0 d)
      = (St.next (mat k p) (mat v p) (col b p) (col i p) (stOf C n m p)).n d := by
  unfold_payloads
  pointwise
  rfl

theorem m2 (p : Fin 16) :
    k0_pay260 (F := Ideal) m b i (ix3 p 0 0) = mNew (col b p) (col i p) (stOf C n m p) := by
  unfold_payloads
  pointwise
  rfl

theorem C2 (hk : ∀ p e t, kT (ix3 p e t) = k (ix3 p t e)) (p : Fin 16) (e d : Fin 128) :
    k0_pay264 (F := Ideal) C kT v (k0_pay261 (F := Ideal) m b i) (k0_pay263 (F := Ideal) m b i) (ix3 p e d)
      = (St.next (mat k p) (mat v p) (col b p) (col i p) (stOf C n m p)).C e d := by
  unfold_payloads
  pointwise
  simp only [hk]
  rfl

theorem n2 (p : Fin 16) (d : Fin 128) :
    k0_pay265 (F := Ideal) n k (k0_pay261 (F := Ideal) m b i) (k0_pay262 (F := Ideal) m b i) (ix3 p 0 d)
      = (St.next (mat k p) (mat v p) (col b p) (col i p) (stOf C n m p)).n d := by
  unfold_payloads
  pointwise
  rfl

theorem norm1 (w : FVec Ideal S16x1x128 .f32) (h : FVec Ideal S16x64x128 .f32) (p : Fin 16) (s : Fin 64) (d : Fin 128) :
    k0_pay170 (F := Ideal) w h (ix3 p s d) = gn (fun e => h (ix3 p s e)) (fun e => w (ix3 p 0 e)) d := by
  unfold_payloads
  pointwise
  rfl

theorem norm2 (w : FVec Ideal S16x1x128 .f32) (h : FVec Ideal S16x64x128 .f32) (p : Fin 16) (s : Fin 64) (d : Fin 128) :
    k0_pay266 (F := Ideal) w h (ix3 p s d) = gn (fun e => h (ix3 p s e)) (fun e => w (ix3 p 0 e)) d := by
  unfold_payloads
  pointwise
  rfl

/-! ### The forget gates' prefix sums -/

/-- The row a rolled read comes from. -/
theorem roll_row (r : Fin 128) (k : ℕ) (hk : k ≤ r.val % 64) : (r.val + 128 - k) % 128 = r.val - k := by
  have := r.isLt; omega

/-- A row's place in its chunk, compared with a shift. -/
theorem select_row {α : Type} (r : Fin 128) (n : ℕ) (hn : n ≤ 64) (x y : α) :
    Scalar.select (IntOp.cmpi .sge (IntOp.andi (BitVec.ofNat 32 r.val) 63#32) (BitVec.ofNat 32 n)) x y
      = if n ≤ r.val % 64 then x else y := by
  have e : IntOp.andi (BitVec.ofNat 32 r.val) 63#32 = BitVec.ofNat 32 (r.val % 64) := by
    revert r; decide
  rw [e, WordCmp.cmpi_sge_ofNat (by omega) (by omega)]
  by_cases h : n ≤ r.val % 64
  · simp [h, Scalar.select]
  · simp [h, Scalar.select]

/-- One doubling of the window, as the kernel writes it. -/
theorem roll_step (f : ℕ → EReal) (n : ℕ) (hn : n ≤ 64) (r : Fin 128) (h : (r.val + 128 - n) % 128 < 128)
    (x : Fin 128 → EReal) (hx : ∀ r, x r = win f n r.val) :
    x r + Scalar.select (IntOp.cmpi .sge (IntOp.andi (BitVec.ofNat 32 r.val) 63#32) (BitVec.ofNat 32 n))
      (x ⟨(r.val + 128 - n) % 128, h⟩) 0 = win f (2 * n) r.val := by
  rw [select_row r n hn, ← win_double f n r.val hn r.isLt, hx, hx]
  congr 1
  split
  · next hk => exact congrArg (win f n) (roll_row r n hk)
  · rfl

/-- One step of the scan over the rows. -/
def scanStep (n : BitVec 32) (x : FVec Ideal S128x128 .f32) : FVec Ideal S128x128 .f32 :=
  addf x (select (cmpi .sge k0_pay10 (broadcast S128x128 n)) (dynamicRotate 0 n none x rotates_S128x128_d0)
    (broadcast S128x128 (Scalar.ofBits (F := Ideal) .f32 0x00000000#32)))

/-- The logarithm of the forget gates. -/
def logGate (g : FVec Ideal S128x128 .f32) : FVec Ideal S128x128 .f32 :=
  subf (minimumf g (broadcast S128x128 (Scalar.ofBits (F := Ideal) .f32 0x00000000#32)))
    (log1p (exp (subf (broadcast S128x128 (Scalar.ofBits (F := Ideal) .f32 0x00000000#32)) (absf g))))

/-- The scan over the rows of each chunk. -/
def scanAll (g : FVec Ideal S128x128 .f32) : FVec Ideal S128x128 .f32 :=
  scanStep 32#32 (scanStep 16#32 (scanStep 8#32 (scanStep 4#32 (scanStep 2#32 (scanStep 1#32 (logGate g))))))

theorem scan0 (g : FVec Ideal S128x128 .f32) :
    k0_pay14 (F := Ideal) (k0_pay11 (F := Ideal) g k0_pay10 (Scalar.ofBits (F := Ideal) .f32 0x00000000#32)) (k0_pay12 k0_pay10)
      (k0_pay13 (F := Ideal) g k0_pay10 (Scalar.ofBits (F := Ideal) .f32 0x00000000#32)) (Scalar.ofBits (F := Ideal) .f32 0x00000000#32) = scanAll g := rfl

theorem scan1 (g : FVec Ideal S128x128 .f32) : k0_pay17 (F := Ideal) k0_pay10 (k0_pay15 (F := Ideal) g k0_pay10) k0_pay16 = scanAll g := rfl

theorem scan2 (g : FVec Ideal S128x128 .f32) :
    k0_pay22 (F := Ideal) k0_pay10 (k0_pay18 (F := Ideal) g k0_pay10) (k0_pay19 k0_pay10) (k0_pay20 (F := Ideal) g k0_pay10) (k0_pay21 (F := Ideal)) = scanAll g := rfl

theorem scan3 (g : FVec Ideal S128x128 .f32) :
    k0_pay25 (F := Ideal) k0_pay10 (k0_pay23 (F := Ideal) g k0_pay10) (k0_pay24 k0_pay10) = scanAll g := rfl

theorem scanStep_apply (f : ℕ → EReal) (n : ℕ) (hn : n ∈ [1, 2, 4, 8, 16, 32]) (c : Fin 128) (x : FVec Ideal S128x128 .f32)
    (hx : ∀ r : Fin 128, x (ix2 r c) = win f n r.val) (r : Fin 128) :
    scanStep (BitVec.ofNat 32 n) x (ix2 r c) = win f (2 * n) r.val := by
  have key := fun h => roll_step f n (by simp at hn; omega) r h (fun r => x (ix2 r c)) hx
  unfold scanStep
  unfold_payloads
  simp only [List.mem_cons, List.not_mem_nil, or_false] at hn
  rcases hn with rfl | rfl | rfl | rfl | rfl | rfl <;>
  · pointwise
    exact key _

/-- The scan holds, in every row, the sum of the logarithms of the forget gates of the row's chunk up to it. -/
theorem scanAll_apply (g : FVec Ideal S128x128 .f32) (r c : Fin 128) :
    scanAll g (ix2 r c) = win (fun j => lsig (g (ix2 (Fin.ofNat 128 j) c))) 64 r.val := by
  unfold scanAll
  refine scanStep_apply _ 32 (by decide) c _ (fun r => ?_) r
  refine scanStep_apply _ 16 (by decide) c _ (fun r => ?_) r
  refine scanStep_apply _ 8 (by decide) c _ (fun r => ?_) r
  refine scanStep_apply _ 4 (by decide) c _ (fun r => ?_) r
  refine scanStep_apply _ 2 (by decide) c _ (fun r => ?_) r
  refine scanStep_apply _ 1 (by decide) c _ (fun r => ?_) r
  rw [win_one]
  unfold logGate
  pointwise
  simp only [absf_eq]
  have : Fin.ofNat 128 r.val = r := Fin.ext (Nat.mod_eq_of_lt r.isLt)
  rw [this]
  rfl

end

end MLstm
-- ==== Proof.KernelStack.lean ====
module
public import proofs.«01_k».proof.Proof.KernelChunk

/-! The kernel works on all sixteen heads at once: it cuts each head's rows out of the blocks it loaded and
    stacks them. Here: what the pieces are, and what the stacks are. -/

@[expose] public section

set_option maxRecDepth 16384

open Cert.KernelIdeal Cert.KernelIdeal.Gen Idealize.ShloMosaic Idealize.ShloMosaic.TcCoe Idealize.SL.Sem

namespace MLstm

noncomputable section

/-! ### Loads of whole blocks -/

theorem load_block {sp : Space} {s : Shape} {e : EltTy} (a : Memref sig .tc sp s e) (h : a.IsWhole) (r : Rect s)
    (X : s.Idx → Elt Ideal e) :
    View.readAt (κ := .tc) (Elt Ideal) (Memref.view (κ := .tc) a) r.toLoadRect (h.unread X) = View.ld X r :=
  congrArg (fun x => View.ld x r) (h.read_unread X)

/-! ### Pieces -/

/-- A head's lanes of one batch entry, all 128 rows. -/
def slab (x : FVec Ideal S4x128x512 .f32) (b c : ℕ) : FVec Ideal S128x128 .f32 :=
  fun j => x (ix3 (Fin.ofNat 4 b) (j 0) (Fin.ofNat 512 (c + (j 1).val)))

/-- 64 of a head's rows. -/
def piece (x : FVec Ideal S4x128x512 .f32) (b r c : ℕ) : FVec Ideal S1x64x128 .f32 :=
  fun j => x (ix3 (Fin.ofNat 4 b) (Fin.ofNat 128 (r + (j 1).val)) (Fin.ofNat 512 (c + (j 2).val)))

/-- 64 of a head's rows, transposed. -/
def pieceT (x : FVec Ideal S4x128x512 .f32) (b r c : ℕ) : FVec Ideal S1x128x64 .f32 :=
  fun j => x (ix3 (Fin.ofNat 4 b) (Fin.ofNat 128 (r + (j 2).val)) (Fin.ofNat 512 (c + (j 1).val)))

/-- The gates of one batch entry. -/
def gslab (g : FVec Ideal S4x128x128 .f32) (b : ℕ) : FVec Ideal S128x128 .f32 :=
  fun j => g (ix3 (Fin.ofNat 4 b) (j 0) (j 1))

/-- 64 rows of a gate, as a column. -/
def pieceC (g : FVec Ideal S4x128x128 .f32) (b r l : ℕ) : FVec Ideal S1x64x1 .f32 :=
  fun j => g (ix3 (Fin.ofNat 4 b) (Fin.ofNat 128 (r + (j 1).val)) (Fin.ofNat 128 l))

/-- 64 rows of a gate, as a row. -/
def pieceR (g : FVec Ideal S4x128x128 .f32) (b r l : ℕ) : FVec Ideal S1x1x64 .f32 :=
  fun j => g (ix3 (Fin.ofNat 4 b) (Fin.ofNat 128 (r + (j 2).val)) (Fin.ofNat 128 l))

/-- A head's scales of the normalisation. -/
def pieceW (w : FVec Ideal S1x512 .f32) (c : ℕ) : FVec Ideal S1x1x128 .f32 :=
  fun j => w (ix2 0 (Fin.ofNat 512 (c + (j 2).val)))

/-- The keys, scaled. -/
def scaled (x : FVec Ideal S4x128x512 .f32) : FVec Ideal S4x128x512 .f32 :=
  fun j => x j * Ideal.ofBits FTy.f32 0x3DB504F3#32

/-- The gates with their biases. -/
def biased (g : FVec Ideal S4x128x128 .f32) (w : FVec Ideal S1x128 .f32) : FVec Ideal S4x128x128 .f32 :=
  fun j => g j + w (ix2 0 (j 2))

/-- The forget gates summed. -/
def summed (g : FVec Ideal S4x128x128 .f32) : FVec Ideal S4x128x128 .f32 :=
  fun j => scanAll (fun i => g (ix3 (j 0) (i 0) (i 1))) (ix2 (j 1) (j 2))

theorem ofNat_eq {n : ℕ} [NeZero n] (k : ℕ) (h : k < n) : Fin.ofNat n k = ⟨k, h⟩ := Fin.ext (Nat.mod_eq_of_lt h)

theorem at3 {α : Type} {A B C : ℕ} (x : (⟨3, ![A, B, C]⟩ : Shape).Idx → α) {a a' : Fin A} {b b' : Fin B} {c c' : Fin C}
    (ha : a.val = a'.val) (hb : b.val = b'.val) (hc : c.val = c'.val) : x (ix3 a b c) = x (ix3 a' b' c') := by
  rw [Fin.ext ha, Fin.ext hb, Fin.ext hc]

theorem mod_lt {n k : ℕ} [NeZero n] (h : k < n) : k = (Fin.ofNat n k).val := (Nat.mod_eq_of_lt h).symm

theorem ld3 {A B C a b c : ℕ} (x : FVec Ideal ⟨3, ![A, B, C]⟩ .f32) (o0 o1 o2 : ℕ) (inb)
    (i : Fin a) (j : Fin b) (k : Fin c) :
    View.ld (Val := Elt Ideal) (e' := .f32) x (Rect.unit (s := ⟨3, ![A, B, C]⟩) ![o0, o1, o2] ![a, b, c] inb) (ix3 i j k) =
      x (ix3 ⟨o0 + i.val, by have := inb 0; change o0 + a ≤ A at this; omega⟩
        ⟨o1 + j.val, by have := inb 1; change o1 + b ≤ B at this; omega⟩
        ⟨o2 + k.val, by have := inb 2; change o2 + c ≤ C at this; omega⟩) := by
  refine congrArg x (funext fun a => Fin.ext ?_)
  match a with
  | ⟨0, _⟩ => show o0 + 1 * i.val = o0 + i.val; omega
  | ⟨1, _⟩ => show o1 + 1 * j.val = o1 + j.val; omega
  | ⟨2, _⟩ => show o2 + 1 * k.val = o2 + k.val; omega

theorem ld2 {A B a b : ℕ} (x : FVec Ideal ⟨2, ![A, B]⟩ .f32) (o0 o1 : ℕ) (inb) (i : Fin a) (j : Fin b) :
    View.ld (Val := Elt Ideal) (e' := .f32) x (Rect.unit (s := ⟨2, ![A, B]⟩) ![o0, o1] ![a, b] inb) (ix2 i j) =
      x (ix2 ⟨o0 + i.val, by have := inb 0; change o0 + a ≤ A at this; omega⟩
        ⟨o1 + j.val, by have := inb 1; change o1 + b ≤ B at this; omega⟩) := by
  refine congrArg x (funext fun a => Fin.ext ?_)
  match a with
  | ⟨0, _⟩ => show o0 + 1 * i.val = o0 + i.val; omega
  | ⟨1, _⟩ => show o1 + 1 * j.val = o1 + j.val; omega

theorem slice2 {A B a b : ℕ} (x : FVec Ideal ⟨2, ![A, B]⟩ .f32) (o0 o1 : ℕ) (h) (i : Fin a) (j : Fin b) :
    extractStridedSlice (s := ⟨2, ![A, B]⟩) ⟨2, ![a, b]⟩ ![o0, o1] x h (ix2 i j) =
      x (ix2 ⟨o0 + i.val, by have := h.2 0; change o0 + a ≤ A at this; omega⟩
        ⟨o1 + j.val, by have := h.2 1; change o1 + b ≤ B at this; omega⟩) :=
  extractStridedSlice_apply _ _ _ _ _ fun a => by
    match a with
    | ⟨0, _⟩ => rfl
    | ⟨1, _⟩ => rfl

theorem cast_a (X : FVec Ideal S1x128x128 .f32) (h) (i j : Fin 128) : shapeCast S128x128 X h (ix2 i j) = X (ix3 0 i j) := by
  pointwise

theorem cast_b (X : FVec Ideal S64x128 .f32) (h) (u : Fin 1) (i : Fin 64) (j : Fin 128) : shapeCast S1x64x128 X h (ix3 u i j) = X (ix2 i j) := by
  pointwise

theorem cast_c (X : FVec Ideal S1x64x128 .f32) (h) (i : Fin 64) (j : Fin 128) : shapeCast S64x128 X h (ix2 i j) = X (ix3 0 i j) := by
  pointwise

theorem cast_d (X : FVec Ideal S128x64 .f32) (h) (u : Fin 1) (i : Fin 128) (j : Fin 64) : shapeCast S1x128x64 X h (ix3 u i j) = X (ix2 i j) := by
  pointwise

theorem cast_e (X : FVec Ideal S64x1 .f32) (h) (u v : Fin 1) (i : Fin 64) : shapeCast S1x64x1 X h (ix3 u i v) = X (ix2 i 0) := by
  pointwise

theorem cast_f (X : FVec Ideal S1x64 .f32) (h) (u v : Fin 1) (i : Fin 64) : shapeCast S1x1x64 X h (ix3 u v i) = X (ix2 0 i) := by
  pointwise

theorem cast_g (X : FVec Ideal S1x128 .f32) (h) (u v : Fin 1) (i : Fin 128) : shapeCast S1x1x128 X h (ix3 u v i) = X (ix2 0 i) := by
  pointwise

theorem ext2 {α : Type} {A B : ℕ} {x y : (⟨2, ![A, B]⟩ : Shape).Idx → α} (h : ∀ i j, x (ix2 i j) = y (ix2 i j)) : x = y :=
  funext fun j => by rw [eq_ix2 j]; exact h _ _

theorem ext3 {α : Type} {A B C : ℕ} {x y : (⟨3, ![A, B, C]⟩ : Shape).Idx → α}
    (h : ∀ i j k, x (ix3 i j k) = y (ix3 i j k)) : x = y :=
  funext fun j => by rw [eq_ix3 j]; exact h _ _ _

theorem slab_load (x : FVec Ideal S4x128x512 .f32) (b c : ℕ) (inb) (h) :
    shapeCast S128x128 (View.ld (Val := Elt Ideal) (e' := .f32) x (Rect.unit (s := S4x128x512) ![b, 0, c] ![1, 128, 128] inb)) h
      = slab x b c := by
  refine ext2 fun j0 j1 => ?_
  rw [cast_a]
  refine (ld3 x b 0 c inb 0 j0 j1).trans (at3 x ?_ ?_ ?_)
  · have := inb 0; change b + 1 ≤ 4 at this; exact mod_lt (by omega)
  · exact Nat.zero_add _
  · have := inb 2; change c + 128 ≤ 512 at this; have := j1.isLt; exact mod_lt (by show c + j1.val < 512; omega)

theorem piece_load (x : FVec Ideal S4x128x512 .f32) (b r c : ℕ) (inb) (h h') :
    shapeCast S1x64x128 (shapeCast S64x128 (View.ld (Val := Elt Ideal) (e' := .f32) x (Rect.unit (s := S4x128x512) ![b, r, c] ![1, 64, 128] inb)) h) h'
      = piece x b r c := by
  refine ext3 fun j0 j1 j2 => ?_
  rw [cast_b, cast_c]
  refine (ld3 x b r c inb 0 j1 j2).trans (at3 x ?_ ?_ ?_)
  · have := inb 0; change b + 1 ≤ 4 at this; exact mod_lt (by omega)
  · have := inb 1; change r + 64 ≤ 128 at this; have := j1.isLt; exact mod_lt (by show r + j1.val < 128; omega)
  · have := inb 2; change c + 128 ≤ 512 at this; have := j2.isLt; exact mod_lt (by show c + j2.val < 512; omega)

theorem slab_scaled (x : FVec Ideal S4x128x512 .f32) (b c : ℕ) :
    mulf (slab x b c) (broadcast S128x128 (Scalar.ofBits (F := Ideal) .f32 0x3DB504F3#32)) = slab (scaled x) b c := rfl

theorem piece_slab (x : FVec Ideal S4x128x512 .f32) (b r c : ℕ) (h h') :
    shapeCast S1x64x128 (extractStridedSlice S64x128 ![r, 0] (slab x b c) h) h' = piece x b r c := by
  refine ext3 fun j0 j1 j2 => ?_
  rw [cast_b]
  refine (slice2 (slab x b c) r 0 h j1 j2).trans (at3 x rfl ?_ ?_)
  · have := h.2 0; change r + 64 ≤ 128 at this; have := j1.isLt; exact mod_lt (by show r + j1.val < 128; omega)
  · show (c + (0 + j2.val)) % 512 = (c + j2.val) % 512; rw [Nat.zero_add]

theorem pieceT_slab (x : FVec Ideal S4x128x512 .f32) (b r c : ℕ) (perm : List (Fin S128x128.rank)) (hp : perm = [1, 0]) (ht h h') :
    shapeCast S1x128x64 (extractStridedSlice S128x64 ![0, r] (transpose S128x128 perm (slab x b c) ht) h) h' = pieceT x b r c := by
  subst hp
  have tr : ∀ i k : Fin 128, transpose S128x128 [1, 0] (slab x b c) ht (ix2 i k) = slab x b c (ix2 k i) := fun i k => by pointwise
  refine ext3 fun j0 j1 j2 => ?_
  rw [cast_d]
  refine (slice2 _ 0 r h j1 j2).trans ((tr _ _).trans (at3 x rfl ?_ ?_))
  · have := h.2 1; change r + 64 ≤ 128 at this; have := j2.isLt; exact mod_lt (by show r + j2.val < 128; omega)
  · show (c + (0 + j1.val)) % 512 = (c + j1.val) % 512; rw [Nat.zero_add]

theorem gslab_load (g : FVec Ideal S4x128x128 .f32) (w : FVec Ideal S1x128 .f32) (b : ℕ) (inb inb') (h h' h'') :
    addf (shapeCast S128x128 (View.ld (Val := Elt Ideal) (e' := .f32) g (Rect.unit (s := S4x128x128) ![b, 0, 0] ![1, 128, 128] inb)) h)
      (broadcastTo S128x128 (shapeCast S1x128 (View.ld (Val := Elt Ideal) (e' := .f32) w (Rect.unit (s := S1x128) ![0, 0] ![1, 128] inb')) h') h'')
      = gslab (biased g w) b := by
  have bc : ∀ (X : FVec Ideal S1x128 .f32) (i k : Fin 128),
      broadcastTo S128x128 (shapeCast S1x128 X h') h'' (ix2 i k) = X (ix2 0 k) := fun X i k => by pointwise
  refine ext2 fun j0 j1 => ?_
  show shapeCast S128x128 _ h (ix2 j0 j1) + broadcastTo S128x128 _ h'' (ix2 j0 j1) = _
  rw [cast_a, bc]
  refine congrArg₂ (· + ·) ((ld3 g b 0 0 inb 0 j0 j1).trans (at3 g ?_ ?_ ?_)) ((ld2 w 0 0 inb' 0 j1).trans ?_)
  · have := inb 0; change b + 1 ≤ 4 at this; exact mod_lt (by omega)
  · exact Nat.zero_add _
  · exact Nat.zero_add _
  · exact congrArg w (congrArg (ix2 0) (Fin.ext (Nat.zero_add _)))

theorem scan_gslab (g : FVec Ideal S4x128x128 .f32) (b : ℕ) : scanAll (gslab g b) = gslab (summed g) b := by
  refine ext2 fun j0 j1 => ?_
  rfl

theorem pieceC_gslab (g : FVec Ideal S4x128x128 .f32) (b r l : ℕ) (h h') :
    shapeCast S1x64x1 (extractStridedSlice S64x1 ![r, l] (gslab g b) h) h' = pieceC g b r l := by
  refine ext3 fun j0 j1 j2 => ?_
  rw [cast_e]
  refine (slice2 (gslab g b) r l h j1 0).trans (at3 g rfl ?_ ?_)
  · have := h.2 0; change r + 64 ≤ 128 at this; have := j1.isLt; exact mod_lt (by show r + j1.val < 128; omega)
  · have := h.2 1; change l + 1 ≤ 128 at this; exact mod_lt (by omega)

theorem pieceR_gslab (g : FVec Ideal S4x128x128 .f32) (b r l : ℕ) (perm : List (Fin S128x128.rank)) (hp : perm = [1, 0]) (ht h h') :
    shapeCast S1x1x64 (extractStridedSlice S1x64 ![l, r] (transpose S128x128 perm (gslab g b) ht) h) h' = pieceR g b r l := by
  subst hp
  have tr : ∀ i k : Fin 128, transpose S128x128 [1, 0] (gslab g b) ht (ix2 i k) = gslab g b (ix2 k i) := fun i k => by pointwise
  refine ext3 fun j0 j1 j2 => ?_
  rw [cast_f]
  refine (slice2 _ l r h 0 j2).trans ((tr _ _).trans (at3 g rfl ?_ ?_))
  · have := h.2 1; change r + 64 ≤ 128 at this; have := j2.isLt; exact mod_lt (by show r + j2.val < 128; omega)
  · have := h.2 0; change l + 1 ≤ 128 at this; exact mod_lt (by omega)

theorem pieceW_load (w : FVec Ideal S1x512 .f32) (c : ℕ) (inb h h') :
    shapeCast S1x1x128 (shapeCast S1x128 (View.ld (Val := Elt Ideal) (e' := .f32) w (Rect.unit (s := S1x512) ![0, c] ![1, 128] inb)) h) h'
      = pieceW w c := by
  have sc : ∀ (X : FVec Ideal S1x128 .f32) (k : Fin 128), shapeCast S1x128 X h (ix2 0 k) = X (ix2 0 k) := fun X k => by pointwise
  refine ext3 fun j0 j1 j2 => ?_
  rw [cast_g, sc]
  refine (ld2 w 0 c inb 0 j2).trans (congrArg w (congrArg (ix2 0) (Fin.ext ?_)))
  have := inb 1; change c + 128 ≤ 512 at this; have := j2.isLt; exact mod_lt (by show c + j2.val < 512; omega)

/-! ### The same, of the loads -/

section
variable (a : Memref sig .tc .vmem S4x128x512 .f32) (ha : a.IsWhole) (x : FVec Ideal S4x128x512 .f32)
  (ag : Memref sig .tc .vmem S4x128x128 .f32) (hg : ag.IsWhole) (g : FVec Ideal S4x128x128 .f32)
  (ab : Memref sig .tc .vmem S1x128 .f32) (hb : ab.IsWhole) (w : FVec Ideal S1x128 .f32)
  (aw : Memref sig .tc .vmem S1x512 .f32) (hw : aw.IsWhole) (ww : FVec Ideal S1x512 .f32)

theorem slab_read (b c : ℕ) (inb) (h) :
    shapeCast (α := Ideal .f32) (s := S1x128x128) S128x128 (View.readAt (κ := .tc) (Elt Ideal) (Memref.view (κ := .tc) a)
      (Rect.unit (s := S4x128x512) ![b, 0, c] ![1, 128, 128] inb).toLoadRect (ha.unread x)) h = slab x b c :=
  (congrArg (fun X => shapeCast (α := Ideal .f32) (s := S1x128x128) S128x128 X h) (load_block a ha _ x)).trans (slab_load x b c inb h)

theorem piece_read (b r c : ℕ) (inb) (h h') :
    shapeCast S1x64x128 (shapeCast (α := Ideal .f32) (s := S1x64x128) S64x128 (View.readAt (κ := .tc) (Elt Ideal) (Memref.view (κ := .tc) a)
      (Rect.unit (s := S4x128x512) ![b, r, c] ![1, 64, 128] inb).toLoadRect (ha.unread x)) h) h' = piece x b r c :=
  (congrArg (fun X => shapeCast S1x64x128 (shapeCast (α := Ideal .f32) (s := S1x64x128) S64x128 X h) h') (load_block a ha _ x)).trans
    (piece_load x b r c inb h h')

theorem gslab_read (b : ℕ) (inb inb') (h h' h'') :
    addf (shapeCast (α := Ideal .f32) (s := S1x128x128) S128x128 (View.readAt (κ := .tc) (Elt Ideal) (Memref.view (κ := .tc) ag)
        (Rect.unit (s := S4x128x128) ![b, 0, 0] ![1, 128, 128] inb).toLoadRect (hg.unread g)) h)
      (broadcastTo S128x128 (shapeCast (α := Ideal .f32) (s := S1x128) S1x128 (View.readAt (κ := .tc) (Elt Ideal) (Memref.view (κ := .tc) ab)
        (Rect.unit (s := S1x128) ![0, 0] ![1, 128] inb').toLoadRect (hb.unread w)) h') h'') = gslab (biased g w) b :=
  (congrArg₂ (fun X Y => addf (shapeCast (α := Ideal .f32) (s := S1x128x128) S128x128 X h)
    (broadcastTo S128x128 (shapeCast (α := Ideal .f32) (s := S1x128) S1x128 Y h') h'')) (load_block ag hg _ g) (load_block ab hb _ w)).trans
    (gslab_load g w b inb inb' h h' h'')

theorem pieceW_read (c : ℕ) (inb h h') :
    shapeCast S1x1x128 (shapeCast (α := Ideal .f32) (s := S1x128) S1x128 (View.readAt (κ := .tc) (Elt Ideal) (Memref.view (κ := .tc) aw)
      (Rect.unit (s := S1x512) ![0, c] ![1, 128] inb).toLoadRect (hw.unread ww)) h) h' = pieceW ww c :=
  (congrArg (fun X => shapeCast S1x1x128 (shapeCast (α := Ideal .f32) (s := S1x128) S1x128 X h) h') (load_block aw hw _ ww)).trans
    (pieceW_load ww c inb h h')

end

/-! ### Stacks -/

/-- Sixteen pieces along a leading unit axis. -/
theorem stack16 {B C : ℕ} (f : ℕ → ℕ → FVec Ideal ⟨3, ![1, B, C]⟩ .f32) (h) :
    concatenate (⟨3, ![16, B, C]⟩ : Shape) 0 [⟨_, f 0 0⟩, ⟨_, f 0 1⟩, ⟨_, f 0 2⟩, ⟨_, f 0 3⟩,
      ⟨_, f 1 0⟩, ⟨_, f 1 1⟩, ⟨_, f 1 2⟩, ⟨_, f 1 3⟩,
      ⟨_, f 2 0⟩, ⟨_, f 2 1⟩, ⟨_, f 2 2⟩, ⟨_, f 2 3⟩,
      ⟨_, f 3 0⟩, ⟨_, f 3 1⟩, ⟨_, f 3 2⟩, ⟨_, f 3 3⟩] h
      = fun j => f ((j 0).val / 4) ((j 0).val % 4) (ix3 0 (j 1) (j 2)) := by
  funext j
  exact concatenate_ofFn_unit_apply (t := ⟨3, ![16, B, C]⟩) (s₁ := ⟨3, ![1, B, C]⟩) 0
    (fun p : Fin 16 => f (p.val / 4) (p.val % 4)) h rfl rfl j (j 0) rfl (ix3 0 (j 1) (j 2)) (fun b hb => by
      match b with
      | ⟨0, _⟩ => exact absurd rfl hb
      | ⟨1, _⟩ => rfl
      | ⟨2, _⟩ => rfl)

/-- The stacked rows of the sixteen heads. -/
def rows (x : FVec Ideal S4x128x512 .f32) (r : ℕ) : FVec Ideal S16x64x128 .f32 :=
  fun j => piece x ((j 0).val / 4) r (128 * ((j 0).val % 4)) (ix3 0 (j 1) (j 2))

/-- The stacked rows of the sixteen heads, transposed. -/
def rowsT (x : FVec Ideal S4x128x512 .f32) (r : ℕ) : FVec Ideal S16x128x64 .f32 :=
  fun j => pieceT x ((j 0).val / 4) r (128 * ((j 0).val % 4)) (ix3 0 (j 1) (j 2))

/-- The stacked gate columns; `l` is the first head's lane. -/
def cols (g : FVec Ideal S4x128x128 .f32) (r l : ℕ) : FVec Ideal S16x64x1 .f32 :=
  fun j => pieceC g ((j 0).val / 4) r (l + (j 0).val % 4) (ix3 0 (j 1) (j 2))

/-- The stacked gate rows. -/
def colsR (g : FVec Ideal S4x128x128 .f32) (r l : ℕ) : FVec Ideal S16x1x64 .f32 :=
  fun j => pieceR g ((j 0).val / 4) r (l + (j 0).val % 4) (ix3 0 (j 1) (j 2))

/-- The stacked scales of the normalisation. -/
def scales (w : FVec Ideal S1x512 .f32) : FVec Ideal S16x1x128 .f32 :=
  fun j => pieceW w (128 * ((j 0).val % 4)) (ix3 0 (j 1) (j 2))

/-- A concatenation, as a function of its pieces alone. -/
def stk (t : Shape) (a : Fin t.rank) (xs : List ((s : Shape) × (s.Idx → Ideal .f32))) : t.Idx → Ideal .f32 :=
  if h : Shape.Concatenates (xs.map (·.1)) t a then concatenate t a xs h else fun _ => (0 : EReal)

theorem to_stk (t : Shape) (a : Fin t.rank) (xs : List ((s : Shape) × (s.Idx → Ideal .f32))) (h) :
    concatenate t a xs h = stk t a xs := (dif_pos h).symm

theorem stk16 {B C : ℕ} (f : ℕ → ℕ → FVec Ideal ⟨3, ![1, B, C]⟩ .f32)
    (hs : Shape.Concatenates (List.replicate 16 (⟨3, ![1, B, C]⟩ : Shape)) (⟨3, ![16, B, C]⟩ : Shape) 0) :
    stk (⟨3, ![16, B, C]⟩ : Shape) 0 [⟨_, f 0 0⟩, ⟨_, f 0 1⟩, ⟨_, f 0 2⟩, ⟨_, f 0 3⟩,
      ⟨_, f 1 0⟩, ⟨_, f 1 1⟩, ⟨_, f 1 2⟩, ⟨_, f 1 3⟩,
      ⟨_, f 2 0⟩, ⟨_, f 2 1⟩, ⟨_, f 2 2⟩, ⟨_, f 2 3⟩,
      ⟨_, f 3 0⟩, ⟨_, f 3 1⟩, ⟨_, f 3 2⟩, ⟨_, f 3 3⟩]
      = fun j => f ((j 0).val / 4) ((j 0).val % 4) (ix3 0 (j 1) (j 2)) :=
  (dif_pos hs).trans (stack16 f hs)

theorem rows_stack (x : FVec Ideal S4x128x512 .f32) (r : ℕ) :
    stk S16x64x128 0 [⟨S1x64x128, piece x 0 r 0⟩, ⟨S1x64x128, piece x 0 r 128⟩, ⟨S1x64x128, piece x 0 r 256⟩, ⟨S1x64x128, piece x 0 r 384⟩,
      ⟨S1x64x128, piece x 1 r 0⟩, ⟨S1x64x128, piece x 1 r 128⟩, ⟨S1x64x128, piece x 1 r 256⟩, ⟨S1x64x128, piece x 1 r 384⟩,
      ⟨S1x64x128, piece x 2 r 0⟩, ⟨S1x64x128, piece x 2 r 128⟩, ⟨S1x64x128, piece x 2 r 256⟩, ⟨S1x64x128, piece x 2 r 384⟩,
      ⟨S1x64x128, piece x 3 r 0⟩, ⟨S1x64x128, piece x 3 r 128⟩, ⟨S1x64x128, piece x 3 r 256⟩, ⟨S1x64x128, piece x 3 r 384⟩] = rows x r :=
  stk16 (fun b h => piece x b r (128 * h)) (by decide)

theorem rowsT_stack (x : FVec Ideal S4x128x512 .f32) (r : ℕ) :
    stk S16x128x64 0 [⟨S1x128x64, pieceT x 0 r 0⟩, ⟨S1x128x64, pieceT x 0 r 128⟩, ⟨S1x128x64, pieceT x 0 r 256⟩, ⟨S1x128x64, pieceT x 0 r 384⟩,
      ⟨S1x128x64, pieceT x 1 r 0⟩, ⟨S1x128x64, pieceT x 1 r 128⟩, ⟨S1x128x64, pieceT x 1 r 256⟩, ⟨S1x128x64, pieceT x 1 r 384⟩,
      ⟨S1x128x64, pieceT x 2 r 0⟩, ⟨S1x128x64, pieceT x 2 r 128⟩, ⟨S1x128x64, pieceT x 2 r 256⟩, ⟨S1x128x64, pieceT x 2 r 384⟩,
      ⟨S1x128x64, pieceT x 3 r 0⟩, ⟨S1x128x64, pieceT x 3 r 128⟩, ⟨S1x128x64, pieceT x 3 r 256⟩, ⟨S1x128x64, pieceT x 3 r 384⟩] = rowsT x r :=
  stk16 (fun b h => pieceT x b r (128 * h)) (by decide)

theorem cols_stack0 (g : FVec Ideal S4x128x128 .f32) (r : ℕ) :
    stk S16x64x1 0 [⟨S1x64x1, pieceC g 0 r 0⟩, ⟨S1x64x1, pieceC g 0 r 1⟩, ⟨S1x64x1, pieceC g 0 r 2⟩, ⟨S1x64x1, pieceC g 0 r 3⟩,
      ⟨S1x64x1, pieceC g 1 r 0⟩, ⟨S1x64x1, pieceC g 1 r 1⟩, ⟨S1x64x1, pieceC g 1 r 2⟩, ⟨S1x64x1, pieceC g 1 r 3⟩,
      ⟨S1x64x1, pieceC g 2 r 0⟩, ⟨S1x64x1, pieceC g 2 r 1⟩, ⟨S1x64x1, pieceC g 2 r 2⟩, ⟨S1x64x1, pieceC g 2 r 3⟩,
      ⟨S1x64x1, pieceC g 3 r 0⟩, ⟨S1x64x1, pieceC g 3 r 1⟩, ⟨S1x64x1, pieceC g 3 r 2⟩, ⟨S1x64x1, pieceC g 3 r 3⟩] = cols g r 0 :=
  stk16 (fun b h => pieceC g b r (0 + h)) (by decide)

theorem cols_stack4 (g : FVec Ideal S4x128x128 .f32) (r : ℕ) :
    stk S16x64x1 0 [⟨S1x64x1, pieceC g 0 r 4⟩, ⟨S1x64x1, pieceC g 0 r 5⟩, ⟨S1x64x1, pieceC g 0 r 6⟩, ⟨S1x64x1, pieceC g 0 r 7⟩,
      ⟨S1x64x1, pieceC g 1 r 4⟩, ⟨S1x64x1, pieceC g 1 r 5⟩, ⟨S1x64x1, pieceC g 1 r 6⟩, ⟨S1x64x1, pieceC g 1 r 7⟩,
      ⟨S1x64x1, pieceC g 2 r 4⟩, ⟨S1x64x1, pieceC g 2 r 5⟩, ⟨S1x64x1, pieceC g 2 r 6⟩, ⟨S1x64x1, pieceC g 2 r 7⟩,
      ⟨S1x64x1, pieceC g 3 r 4⟩, ⟨S1x64x1, pieceC g 3 r 5⟩, ⟨S1x64x1, pieceC g 3 r 6⟩, ⟨S1x64x1, pieceC g 3 r 7⟩] = cols g r 4 :=
  stk16 (fun b h => pieceC g b r (4 + h)) (by decide)

theorem colsR_stack0 (g : FVec Ideal S4x128x128 .f32) (r : ℕ) :
    stk S16x1x64 0 [⟨S1x1x64, pieceR g 0 r 0⟩, ⟨S1x1x64, pieceR g 0 r 1⟩, ⟨S1x1x64, pieceR g 0 r 2⟩, ⟨S1x1x64, pieceR g 0 r 3⟩,
      ⟨S1x1x64, pieceR g 1 r 0⟩, ⟨S1x1x64, pieceR g 1 r 1⟩, ⟨S1x1x64, pieceR g 1 r 2⟩, ⟨S1x1x64, pieceR g 1 r 3⟩,
      ⟨S1x1x64, pieceR g 2 r 0⟩, ⟨S1x1x64, pieceR g 2 r 1⟩, ⟨S1x1x64, pieceR g 2 r 2⟩, ⟨S1x1x64, pieceR g 2 r 3⟩,
      ⟨S1x1x64, pieceR g 3 r 0⟩, ⟨S1x1x64, pieceR g 3 r 1⟩, ⟨S1x1x64, pieceR g 3 r 2⟩, ⟨S1x1x64, pieceR g 3 r 3⟩] = colsR g r 0 :=
  stk16 (fun b h => pieceR g b r (0 + h)) (by decide)

theorem colsR_stack4 (g : FVec Ideal S4x128x128 .f32) (r : ℕ) :
    stk S16x1x64 0 [⟨S1x1x64, pieceR g 0 r 4⟩, ⟨S1x1x64, pieceR g 0 r 5⟩, ⟨S1x1x64, pieceR g 0 r 6⟩, ⟨S1x1x64, pieceR g 0 r 7⟩,
      ⟨S1x1x64, pieceR g 1 r 4⟩, ⟨S1x1x64, pieceR g 1 r 5⟩, ⟨S1x1x64, pieceR g 1 r 6⟩, ⟨S1x1x64, pieceR g 1 r 7⟩,
      ⟨S1x1x64, pieceR g 2 r 4⟩, ⟨S1x1x64, pieceR g 2 r 5⟩, ⟨S1x1x64, pieceR g 2 r 6⟩, ⟨S1x1x64, pieceR g 2 r 7⟩,
      ⟨S1x1x64, pieceR g 3 r 4⟩, ⟨S1x1x64, pieceR g 3 r 5⟩, ⟨S1x1x64, pieceR g 3 r 6⟩, ⟨S1x1x64, pieceR g 3 r 7⟩] = colsR g r 4 :=
  stk16 (fun b h => pieceR g b r (4 + h)) (by decide)

theorem scales_stack (w : FVec Ideal S1x512 .f32) :
    stk S16x1x128 0 [⟨S1x1x128, pieceW w 0⟩, ⟨S1x1x128, pieceW w 128⟩, ⟨S1x1x128, pieceW w 256⟩, ⟨S1x1x128, pieceW w 384⟩,
      ⟨S1x1x128, pieceW w 0⟩, ⟨S1x1x128, pieceW w 128⟩, ⟨S1x1x128, pieceW w 256⟩, ⟨S1x1x128, pieceW w 384⟩,
      ⟨S1x1x128, pieceW w 0⟩, ⟨S1x1x128, pieceW w 128⟩, ⟨S1x1x128, pieceW w 256⟩, ⟨S1x1x128, pieceW w 384⟩,
      ⟨S1x1x128, pieceW w 0⟩, ⟨S1x1x128, pieceW w 128⟩, ⟨S1x1x128, pieceW w 256⟩, ⟨S1x1x128, pieceW w 384⟩] = scales w :=
  stk16 (fun _ h => pieceW w (128 * h)) (by decide)

end

end MLstm
-- ==== Proof.KernelStep.lean ====
module
public import proofs.«01_k».proof.Proof.KernelStack

/-! One grid point of the kernel: two chunks, all sixteen heads. -/

@[expose] public section

set_option maxRecDepth 16384

open Cert.KernelIdeal Cert.KernelIdeal.Gen Idealize.ShloMosaic Idealize.ShloMosaic.TcCoe Idealize.SL.Sem

namespace MLstm

noncomputable section

/-- Lane 0 of the carried maxima. -/
def lane (x : FVec Ideal S16x1x128 .f32) : FVec Ideal S16x1x1 .f32 := fun j => x (ix3 (j 0) 0 0)

theorem lane_zero (x : FVec Ideal S16x1x128 .f32) (h) : extractStridedSlice S16x1x1 ![0, 0, 0] x h = lane x := by
  refine ext3 fun i j k => ?_
  have e : extractStridedSlice S16x1x1 ![0, 0, 0] x h (ix3 i j k) = x (ix3 i 0 0) := by pointwise
  exact e

theorem load_C (a : Memref sig .tc .vmem S16x128x128 .f32) (h : a.IsWhole) (inb) (X : FVec Ideal S16x128x128 .f32) :
    View.readAt (κ := .tc) (Elt Ideal) (Memref.view (κ := .tc) a)
      (Rect.unit (s := S16x128x128) ![0, 0, 0] ![16, 128, 128] inb).toLoadRect (h.unread X) = X :=
  (load_block a h _ X).trans (View.ld_unit_zero (Val := Elt Ideal) (e := .f32) (S := S16x128x128) (by decide) inb X)

theorem load_n (a : Memref sig .tc .vmem S16x1x128 .f32) (h : a.IsWhole) (inb) (X : FVec Ideal S16x1x128 .f32) :
    View.readAt (κ := .tc) (Elt Ideal) (Memref.view (κ := .tc) a)
      (Rect.unit (s := S16x1x128) ![0, 0, 0] ![16, 1, 128] inb).toLoadRect (h.unread X) = X :=
  (load_block a h _ X).trans (View.ld_unit_zero (Val := Elt Ideal) (e := .f32) (S := S16x1x128) (by decide) inb X)

section
variable (x0 x1 x2 x3 : FVec Ideal S4x128x512 .f32) (x4 : FVec Ideal S4x128x128 .f32) (x5 : FVec Ideal S1x128 .f32)
  (x6 : FVec Ideal S1x512 .f32) (xs0 : FVec Ideal S16x128x128 .f32) (xs1 xs2 : FVec Ideal S16x1x128 .f32)

/-- A head's state after the chunk whose rows begin at `r`. -/
def stepAt (r : ℕ) (p : Fin 16) (S : St) : St :=
  St.next (mat (rows (scaled x1) r) p) (mat (rows x2 r) p) (col (cols (summed (biased x4 x5)) r 4) p) (col (cols (biased x4 x5) r 0) p) S

/-- A head's outputs of the chunk whose rows begin at `r`, normalised. -/
def outAt (r : ℕ) (p : Fin 16) (S : St) (s : Fin 64) (d : Fin 128) : EReal :=
  gn (fun e => hh (mat (rows x0 r) p) (mat (rows (scaled x1) r) p) (mat (rows x2 r) p) (col (cols (summed (biased x4 x5)) r 4) p)
    (col (cols (biased x4 x5) r 0) p) S s e) (fun e => scales x6 (ix3 p 0 e)) d

/-- A head's state before the grid point. -/
def st0 (p : Fin 16) : St := stOf xs0 xs1 (lane xs2) p

/-- A head's state after the first chunk. -/
def st1 (p : Fin 16) : St := stepAt x1 x2 x4 x5 0 p (st0 xs0 xs1 xs2 p)

/-- A head's state after the second chunk. -/
def st2 (p : Fin 16) : St := stepAt x1 x2 x4 x5 64 p (st1 x1 x2 x4 x5 xs0 xs1 xs2 p)

/-- The outputs of the point's chunk `u`. -/
def outs (u : ℕ) (p : Fin 16) : Fin 64 → Fin 128 → EReal :=
  outAt x0 x1 x2 x4 x5 x6 (64 * u) p (if u = 0 then st0 xs0 xs1 xs2 p else st1 x1 x2 x4 x5 xs0 xs1 xs2 p)

end

theorem rowsT_rows (x : FVec Ideal S4x128x512 .f32) (r : ℕ) (p : Fin 16) (e : Fin 128) (t : Fin 64) :
    rowsT x r (ix3 p e t) = rows x r (ix3 p t e) := rfl

theorem colsR_cols (g : FVec Ideal S4x128x128 .f32) (r l : ℕ) (p : Fin 16) (t : Fin 64) :
    colsR g r l (ix3 p 0 t) = cols g r l (ix3 p t 0) := rfl

section
variable (C : FVec Ideal S16x128x128 .f32) (n : FVec Ideal S16x1x128 .f32) (m : FVec Ideal S16x1x1 .f32)
  (q k v : FVec Ideal S16x64x128 .f32) (kT : FVec Ideal S16x128x64 .f32) (b i : FVec Ideal S16x64x1 .f32)

theorem St.ext' {S T : St} (hC : ∀ e d, S.C e d = T.C e d) (hn : ∀ d, S.n d = T.n d) (hm : S.m = T.m) : S = T := by
  obtain ⟨C, n, m⟩ := S
  obtain ⟨C', n', m'⟩ := T
  obtain rfl : C = C' := funext fun e => funext (hC e)
  obtain rfl : n = n' := funext hn
  obtain rfl : m = m' := hm
  rfl

/-- The stacks after a point's first chunk hold the heads' next states. -/
theorem next1 (hk : ∀ p e t, kT (ix3 p e t) = k (ix3 p t e)) (p : Fin 16) :
    stOf (k0_pay168 (F := Ideal) C m kT v (k0_pay162 (F := Ideal) b) (k0_pay164 (F := Ideal) m b i) (k0_pay165 (F := Ideal) m b i))
      (k0_pay169 (F := Ideal) n m k (k0_pay162 (F := Ideal) b) (k0_pay164 (F := Ideal) m b i) (k0_pay165 (F := Ideal) m b i))
      (k0_pay164 (F := Ideal) m b i) p = St.next (mat k p) (mat v p) (col b p) (col i p) (stOf C n m p) :=
  St.ext' (C1 C n m k v kT b i hk p) (n1 C n m k v b i p) (m1 C n m b i p)

end

section
variable (x1 x2 : FVec Ideal S4x128x512 .f32) (x4 : FVec Ideal S4x128x128 .f32) (x5 : FVec Ideal S1x128 .f32)
  (xs0 : FVec Ideal S16x128x128 .f32) (xs1 xs2 : FVec Ideal S16x1x128 .f32)

/-- The maxima after the first chunk, as the kernel has them. -/
abbrev mMid : FVec Ideal S16x1x1 .f32 := k0_pay164 (F := Ideal) (lane xs2) (cols (summed (biased x4 x5)) 0 4) (cols (biased x4 x5) 0 0)

/-- The memories after the first chunk, as the kernel has them. -/
abbrev CMid : FVec Ideal S16x128x128 .f32 :=
  k0_pay168 (F := Ideal) xs0 (lane xs2) (rowsT (scaled x1) 0) (rows x2 0) (k0_pay162 (F := Ideal) (cols (summed (biased x4 x5)) 0 4))
    (mMid x4 x5 xs2) (k0_pay165 (F := Ideal) (lane xs2) (cols (summed (biased x4 x5)) 0 4) (cols (biased x4 x5) 0 0))

/-- The normalisers after the first chunk, as the kernel has them. -/
abbrev nMid : FVec Ideal S16x1x128 .f32 :=
  k0_pay169 (F := Ideal) xs1 (lane xs2) (rows (scaled x1) 0) (k0_pay162 (F := Ideal) (cols (summed (biased x4 x5)) 0 4))
    (mMid x4 x5 xs2) (k0_pay165 (F := Ideal) (lane xs2) (cols (summed (biased x4 x5)) 0 4) (cols (biased x4 x5) 0 0))

theorem mid_eq (p : Fin 16) : stOf (CMid x1 x2 x4 x5 xs0 xs2) (nMid x1 x4 x5 xs1 xs2) (mMid x4 x5 xs2) p = st1 x1 x2 x4 x5 xs0 xs1 xs2 p :=
  next1 xs0 xs1 (lane xs2) (rows (scaled x1) 0) (rows x2 0) (rowsT (scaled x1) 0) (cols (summed (biased x4 x5)) 0 4)
    (cols (biased x4 x5) 0 0) (rowsT_rows _ _) p

end

theorem stateC_B (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : ¬cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32)
    (xs0 : FVec Ideal S16x128x128 .f32) (xs1 xs2 : FVec Ideal S16x1x128 .f32) :
    sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = fun j => (st2 x1 x2 x4 x5 xs0 xs1 xs2 (j 0)).C (j 1) (j 2) := by
  unfold sout0_B_0
  rw [View.read_writes_eq_canon _ _ _ (scover0_B_0 _ _ _ _ _ _ _ _ _ _ _ _ _ _ _ _ _ _ _ _ _ _ _ _ _ _ _ _ _ _ _ _ _ _ _)]
  unfold kernelRun0_B
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, load_C, load_n, lane_zero]
  refine (View.canon_unit_zero (Val := Elt Ideal) (S := S16x128x128) (e := .f32) (by decide) _ _).trans ?_
  rw [shapeCast_self]
  refine ext3 fun p e d => ?_
  refine (C2 (CMid x1 x2 x4 x5 xs0 xs2) (nMid x1 x4 x5 xs1 xs2) (mMid x4 x5 xs2) (rows (scaled x1) 64) _ _ _ _ (rowsT_rows _ _) p e d).trans ?_
  rw [mid_eq]
  rfl

theorem staten_B (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : ¬cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32)
    (xs0 : FVec Ideal S16x128x128 .f32) (xs1 xs2 : FVec Ideal S16x1x128 .f32) :
    sout0_B_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = fun j => (st2 x1 x2 x4 x5 xs0 xs1 xs2 (j 0)).n (j 2) := by
  unfold sout0_B_1
  rw [View.read_writes_eq_canon _ _ _ (scover0_B_1 _ _ _ _ _ _ _ _ _ _ _ _ _ _ _ _ _ _ _ _ _ _ _ _ _ _ _ _ _ _ _ _ _ _ _)]
  unfold kernelRun0_B
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, load_C, load_n, lane_zero]
  refine (View.canon_unit_zero (Val := Elt Ideal) (S := S16x1x128) (e := .f32) (by decide) _ _).trans ?_
  rw [shapeCast_self]
  refine ext3 fun p e d => ?_
  obtain rfl : e = 0 := Subsingleton.elim _ _
  refine (n2 (CMid x1 x2 x4 x5 xs0 xs2) (nMid x1 x4 x5 xs1 xs2) (mMid x4 x5 xs2) _ (rows x2 64) _ _ p d).trans ?_
  rw [mid_eq]
  rfl

theorem statem_B (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : ¬cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32)
    (xs0 : FVec Ideal S16x128x128 .f32) (xs1 xs2 : FVec Ideal S16x1x128 .f32) :
    sout0_B_2 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = fun j => (st2 x1 x2 x4 x5 xs0 xs1 xs2 (j 0)).m := by
  unfold sout0_B_2
  rw [View.read_writes_eq_canon _ _ _ (scover0_B_2 _ _ _ _ _ _ _ _ _ _ _ _ _ _ _ _ _ _ _ _ _ _ _ _ _ _ _ _ _ _ _ _ _ _ _)]
  unfold kernelRun0_B
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, load_C, load_n, lane_zero]
  refine (View.canon_unit_zero (Val := Elt Ideal) (S := S16x1x128) (e := .f32) (by decide) _ _).trans ?_
  rw [shapeCast_self]
  refine ext3 fun p e d => ?_
  have bc : ∀ (X : FVec Ideal S16x1x1 .f32) (h h'), broadcastTo S16x1x128 (shapeCast S16x1x1 X h) h' (ix3 p e d) = X (ix3 p 0 0) :=
    fun X h h' => by pointwise
  refine (bc _ _ _).trans ?_
  refine (m2 (CMid x1 x2 x4 x5 xs0 xs2) (nMid x1 x4 x5 xs1 xs2) (mMid x4 x5 xs2) _ _ p).trans ?_
  rw [mid_eq]
  rfl

/-- The outputs of a point: the gate's sigmoid times the normalised output of the row's chunk and the lane's head. -/
def outG (x3 : FVec Ideal S4x128x512 .f32) (T : ℕ → Fin 16 → Fin 64 → Fin 128 → EReal) : S4x128x512.Idx → EReal :=
  fun y => Ideal.logistic (x3 y) * T ((y 1).val / 64) (Fin.ofNat 16 (4 * (y 0).val + (y 2).val / 128)) (Fin.ofNat 64 (y 1).val)
    (Fin.ofNat 128 (y 2).val)

theorem piece_out (a : Memref sig .tc .vmem S4x128x512 .f32) (ha : a.IsWhole) (x3 : FVec Ideal S4x128x512 .f32)
    (N : FVec Ideal S16x64x128 .f32) (T : ℕ → Fin 16 → Fin 64 → Fin 128 → EReal) (u b r p c : ℕ)
    (hN : ∀ p s d, N (ix3 p s d) = T u p s d) (hu : b < 4 ∧ c / 128 < 4 ∧ p = 4 * b + c / 128 ∧ r = 64 * u ∧ c = 128 * (c / 128))
    (inb inb') (h1 h2 h3 h4 h5) (x : S1x64x128.Idx) :
    shapeCast (α := Ideal .bf16) S1x64x128 (truncf .bf16 (mulf
      (logistic (shapeCast (α := Ideal .f32) (s := S1x64x128) S64x128 (View.readAt (κ := .tc) (Elt Ideal) (Memref.view (κ := .tc) a)
        (Rect.unit (s := S4x128x512) ![b, r, c] ![1, 64, 128] inb).toLoadRect (ha.unread x3)) h1))
      (shapeCast S64x128 (extractStridedSlice S1x64x128 ![p, 0, 0] N h2) h3)) h4) h5 x
      = outG x3 T ((Rect.unit (s := S4x128x512) ![b, r, c] ![1, 64, 128] inb').emb x) := by
  obtain ⟨hb, hh, hp, hr, hc⟩ := hu
  generalize c / 128 = h at hh hp hc
  have hx : x = ix3 0 (x 1) (x 2) := by
    rw [eq_ix3 x]
    exact congrArg (fun z => ix3 z (x 1) (x 2)) (Subsingleton.elim _ _)
  have cst : ∀ (X : FVec Ideal S64x128 .bf16), shapeCast (α := Ideal .bf16) S1x64x128 X h5 x = X (ix2 (x 1) (x 2)) := fun X => by
    rw [hx]
    exact cast_b X h5 0 (x 1) (x 2)
  have e3 : extractStridedSlice S1x64x128 ![p, 0, 0] N h2 (ix3 0 (x 1) (x 2)) = T u (Fin.ofNat 16 p) (x 1) (x 2) := by
    refine Eq.trans ?_ (hN (Fin.ofNat 16 p) (x 1) (x 2))
    refine extractStridedSlice_apply _ _ _ _ _ fun i => ?_
    match i with
    | ⟨0, _⟩ => show p % 16 = p + 0; omega
    | ⟨1, _⟩ => exact (Nat.zero_add _).symm
    | ⟨2, _⟩ => exact (Nat.zero_add _).symm
  have e1 := (cast_c (View.readAt (κ := .tc) (Elt Ideal) (Memref.view (κ := .tc) a)
        (Rect.unit (s := S4x128x512) ![b, r, c] ![1, 64, 128] inb).toLoadRect (ha.unread x3)) h1 (x 1) (x 2)).trans
    (congrFun (load_block a ha _ x3) _)
  have l1 := (x 1).isLt
  have l2 := (x 2).isLt
  change _ < 64 at l1
  change _ < 128 at l2
  have y1 : (((Rect.unit (s := S4x128x512) ![b, r, c] ![1, 64, 128] inb').emb x) 1).val = 64 * u + (x 1).val := by
    show r + 1 * (x 1).val = _; omega
  have y2 : (((Rect.unit (s := S4x128x512) ![b, r, c] ![1, 64, 128] inb').emb x) 2).val = 128 * h + (x 2).val := by
    show c + 1 * (x 2).val = _; omega
  have y0 : (((Rect.unit (s := S4x128x512) ![b, r, c] ![1, 64, 128] inb').emb x) 0).val = b := by
    show b + 1 * (x 0).val = _
    have := (x 0).isLt
    change _ < 1 at this
    omega
  refine (cst _).trans ?_
  show Ideal.logistic _ * _ = Ideal.logistic _ * _
  refine congrArg₂ (fun s t => Ideal.logistic s * t) (e1.trans ?_) ((cast_c _ _ _ _).trans (e3.trans ?_))
  · exact congrArg (fun z => x3 ((Rect.unit (s := S4x128x512) ![b, r, c] ![1, 64, 128] inb').emb z)) hx.symm
  · rw [y0, y1, y2]
    have q1 : (64 * u + (x 1).val) / 64 = u := by omega
    have q2 : 4 * b + (128 * h + (x 2).val) / 128 = p := by omega
    have q3 : Fin.ofNat 64 (64 * u + (x 1).val) = x 1 := Fin.ext (by show (64 * u + (x 1).val) % 64 = (x 1).val; omega)
    have q4 : Fin.ofNat 128 (128 * h + (x 2).val) = x 2 := Fin.ext (by show (128 * h + (x 2).val) % 128 = (x 2).val; omega)
    rw [q1, q2, q3, q4]

/-- The first chunk's log weights. -/
theorem dmat1 (b i : FVec Ideal S16x64x1 .f32) (bR iR : FVec Ideal S16x1x64 .f32) (hb : ∀ p t, bR (ix3 p 0 t) = b (ix3 p t 0))
    (hi : ∀ p t, iR (ix3 p 0 t) = i (ix3 p t 0)) (h h' h'') (p : Fin 16) (s t : Fin 64) :
    addf (subf (broadcastTo S16x64x64 b h) (broadcastTo S16x64x64 bR h')) (broadcastTo S16x64x64 iR h'') (ix3 p s t)
      = b (ix3 p s 0) - b (ix3 p t 0) + i (ix3 p t 0) := by
  pointwise
  rw [hb, hi]

/-- The second chunk's log weights, masked. -/
theorem dmat2 (b i : FVec Ideal S16x64x1 .f32) (bR iR : FVec Ideal S16x1x64 .f32) (hb : ∀ p t, bR (ix3 p 0 t) = b (ix3 p t 0))
    (hi : ∀ p t, iR (ix3 p 0 t) = i (ix3 p t 0)) (h h' h'' m1 m2 m3) (p : Fin 16) (s t : Fin 64) :
    select (broadcastTo S16x64x64 (shapeCast S1x64x64 (shapeCast S1x64x64 k0_pay5 m1) m2) m3)
      (addf (subf (broadcastTo S16x64x64 b h) (broadcastTo S16x64x64 bR h')) (broadcastTo S16x64x64 iR h''))
      (broadcast S16x64x64 (Scalar.ofBits (F := Ideal) .f32 0xFF800000#32)) (ix3 p s t)
      = if t ≤ s then b (ix3 p s 0) - b (ix3 p t 0) + i (ix3 p t 0) else ninf := by
  unfold_payloads
  pointwise
  simp only [select_mask, hb, hi]

theorem out_B (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : ¬cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32)
    (xs0 : FVec Ideal S16x128x128 .f32) (xs1 xs2 : FVec Ideal S16x1x128 .f32) :
    out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2
      = outG x3 (outs x0 x1 x2 x4 x5 x6 xs0 xs1 xs2) := by
  unfold out0_B_7
  rw [View.read_writes_eq_canon _ _ _ (cover0_B_7 _ _ _ _ _ _ _ _ _ _ _ _ _ _ _ _ _ _ _ _ _ _ _ _ _ _ _ _ _ _ _ _ _ _ _ )]
  funext y
  have hc := cover0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y
  generalize hL : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1 = L at hc ⊢
  refine View.canon_apply_of_pieces (Val := Elt Ideal) (S := S4x128x512) (e := .bf16) (outG x3 (outs x0 x1 x2 x4 x5 x6 xs0 xs1 xs2)) L ?_ y hc
  rw [← hL]
  clear hL hc
  unfold kernelRun0_B
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, load_C, load_n, lane_zero]
  simp only [List.forall_mem_cons]
  have h1 : ∀ p s d, k0_pay170 (F := Ideal) (scales x6) (k0_pay161 (F := Ideal) xs0 xs1 (lane xs2) (rows x0 0) (rows (scaled x1) 0) (rows x2 0)
      (cols (summed (biased x4 x5)) 0 4) (k0_pay159 k0_pay5) (addf (subf (broadcastTo S16x64x64 (cols (summed (biased x4 x5)) 0 4) broadcasts_S16x64x1_S16x64x64)
                        (broadcastTo S16x64x64 (colsR (summed (biased x4 x5)) 0 4) broadcasts_S16x1x64_S16x64x64))
                      (broadcastTo S16x64x64 (colsR (biased x4 x5) 0 0) broadcasts_S16x1x64_S16x64x64)) (Scalar.ofBits (F := Ideal) .f32 0xFF800000#32)) (ix3 p s d)
      = outs x0 x1 x2 x4 x5 x6 xs0 xs1 xs2 0 p s d := fun p s d =>
    (norm1 _ _ p s d).trans (congrArg (fun f => gn f (fun e => scales x6 (ix3 p 0 e)) d) (funext fun e =>
      out1 xs0 xs1 (lane xs2) (rows x0 0) (rows (scaled x1) 0) (rows x2 0) (cols (summed (biased x4 x5)) 0 4) (cols (biased x4 x5) 0 0) _
        (dmat1 _ _ _ _ (colsR_cols _ _ _) (colsR_cols _ _ _) _ _ _) p s e))
  have h2 : ∀ p s d, k0_pay266 (F := Ideal) (scales x6) (k0_pay257 (F := Ideal) (CMid x1 x2 x4 x5 xs0 xs2) (nMid x1 x4 x5 xs1 xs2) (rows x0 64) (rows (scaled x1) 64) (rows x2 64)
      (cols (summed (biased x4 x5)) 64 4) (select (broadcastTo S16x64x64 (shapeCast S1x64x64 (shapeCast S1x64x64 k0_pay5 shapeCasts_S64x64_S1x64x64) shapeCasts_S1x64x64_S1x64x64) broadcasts_S1x64x64_S16x64x64)
        (addf (subf (broadcastTo S16x64x64 (cols (summed (biased x4 x5)) 64 4) broadcasts_S16x64x1_S16x64x64)
                        (broadcastTo S16x64x64 (colsR (summed (biased x4 x5)) 64 4) broadcasts_S16x1x64_S16x64x64))
                      (broadcastTo S16x64x64 (colsR (biased x4 x5) 64 0) broadcasts_S16x1x64_S16x64x64)) (broadcast S16x64x64 (Scalar.ofBits (F := Ideal) .f32 0xFF800000#32)))
      (k0_pay256 (F := Ideal) (mMid x4 x5 xs2))) (ix3 p s d)
      = outs x0 x1 x2 x4 x5 x6 xs0 xs1 xs2 1 p s d := fun p s d =>
    (norm2 _ _ p s d).trans (congrArg (fun f => gn f (fun e => scales x6 (ix3 p 0 e)) d) (funext fun e =>
      (out2 (CMid x1 x2 x4 x5 xs0 xs2) (nMid x1 x4 x5 xs1 xs2) (mMid x4 x5 xs2) (rows x0 64) (rows (scaled x1) 64) (rows x2 64) (cols (summed (biased x4 x5)) 64 4) (cols (biased x4 x5) 64 0) _
        (dmat2 _ _ _ _ (colsR_cols _ _ _) (colsR_cols _ _ _) _ _ _ _ _ _) p s e).trans (by rw [mid_eq]; rfl)))
  iterate 16 refine ⟨fun x => piece_out arg5 harg5 x3 _ _ 1 _ _ _ _ h2 (by decide) _ _ _ _ _ _ _ x, ?_⟩
  iterate 16 refine ⟨fun x => piece_out arg5 harg5 x3 _ _ 0 _ _ _ _ h1 (by decide) _ _ _ _ _ _ _ x, ?_⟩
  exact fun p hp => absurd hp List.not_mem_nil

/-- What the first grid point clears the memories to, read back. -/
theorem cov_C (a : Memref sig .tc .vmem S16x128x128 .f32) (inb inb') :
    View.readCov (Val := Elt Ideal) (Memref.view (κ := .tc) a) [⟨Rect.unit (s := S16x128x128) ![0, 0, 0] ![16, 128, 128] inb, k0_pay2 (F := Ideal)⟩]
      (Rect.unit (s := S16x128x128) ![0, 0, 0] ![16, 128, 128] inb').toLoadRect = (fun _ => (0 : EReal)) := by
  refine (View.readCov_unit_zero (Val := Elt Ideal) (S := S16x128x128) (e := .f32) (Memref.view (κ := .tc) a) (by decide) inb _).trans ?_
  refine ext3 fun i j k => ?_
  unfold_payloads
  pointwise

/-- What the first grid point clears the normalisers to, read back. -/
theorem cov_n (a : Memref sig .tc .vmem S16x1x128 .f32) (inb inb') :
    View.readCov (Val := Elt Ideal) (Memref.view (κ := .tc) a) [⟨Rect.unit (s := S16x1x128) ![0, 0, 0] ![16, 1, 128] inb, k0_pay3 (F := Ideal)⟩]
      (Rect.unit (s := S16x1x128) ![0, 0, 0] ![16, 1, 128] inb').toLoadRect = (fun _ => (0 : EReal)) := by
  refine (View.readCov_unit_zero (Val := Elt Ideal) (S := S16x1x128) (e := .f32) (Memref.view (κ := .tc) a) (by decide) inb _).trans ?_
  refine ext3 fun i j k => ?_
  unfold_payloads
  pointwise

/-- What the first grid point sets the maxima to, read back. -/
theorem cov_m (a : Memref sig .tc .vmem S16x1x128 .f32) (inb inb') :
    View.readCov (Val := Elt Ideal) (Memref.view (κ := .tc) a) [⟨Rect.unit (s := S16x1x128) ![0, 0, 0] ![16, 1, 128] inb, k0_pay4 (F := Ideal)⟩]
      (Rect.unit (s := S16x1x128) ![0, 0, 0] ![16, 1, 128] inb').toLoadRect = (fun _ => ninf) := by
  refine (View.readCov_unit_zero (Val := Elt Ideal) (S := S16x1x128) (e := .f32) (Memref.view (κ := .tc) a) (by decide) inb _).trans ?_
  refine ext3 fun i j k => ?_
  unfold_payloads
  pointwise

theorem stateC_A (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6
      = fun j => (st2 x1 x2 x4 x5 (fun _ => (0 : EReal)) (fun _ => (0 : EReal)) (fun _ => ninf) (j 0)).C (j 1) (j 2) := by
  unfold sout0_A_0
  rw [View.read_writes_eq_canon _ _ _ (scover0_A_0 _ _ _ _ _ _ _ _ _ _ _ _ _ _ _ _ _ _ _ _ _ _ _ _ _ _ _ _ _ _ _ _)]
  unfold kernelRun0_A
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, cov_C, cov_n, cov_m, lane_zero]
  refine (View.canon_cons_unit_zero (Val := Elt Ideal) (S := S16x128x128) (e := .f32) (by decide) _ _ _).trans ?_
  rw [shapeCast_self]
  refine ext3 fun p e d => ?_
  refine (C2 (CMid x1 x2 x4 x5 (fun _ => (0 : EReal)) (fun _ => ninf)) (nMid x1 x4 x5 (fun _ => (0 : EReal)) (fun _ => ninf)) (mMid x4 x5 (fun _ => ninf)) (rows (scaled x1) 64) _ _ _ _ (rowsT_rows _ _) p e d).trans ?_
  rw [mid_eq]
  rfl

theorem staten_A (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6
      = fun j => (st2 x1 x2 x4 x5 (fun _ => (0 : EReal)) (fun _ => (0 : EReal)) (fun _ => ninf) (j 0)).n (j 2) := by
  unfold sout0_A_1
  rw [View.read_writes_eq_canon _ _ _ (scover0_A_1 _ _ _ _ _ _ _ _ _ _ _ _ _ _ _ _ _ _ _ _ _ _ _ _ _ _ _ _ _ _ _ _)]
  unfold kernelRun0_A
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, cov_C, cov_n, cov_m, lane_zero]
  refine (View.canon_cons_unit_zero (Val := Elt Ideal) (S := S16x1x128) (e := .f32) (by decide) _ _ _).trans ?_
  rw [shapeCast_self]
  refine ext3 fun p e d => ?_
  obtain rfl : e = 0 := Subsingleton.elim _ _
  refine (n2 (CMid x1 x2 x4 x5 (fun _ => (0 : EReal)) (fun _ => ninf)) (nMid x1 x4 x5 (fun _ => (0 : EReal)) (fun _ => ninf)) (mMid x4 x5 (fun _ => ninf)) _ (rows x2 64) _ _ p d).trans ?_
  rw [mid_eq]
  rfl

theorem statem_A (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32) :
    sout0_A_2 (F := Ideal) c i arg2 harg2 arg3 harg3 arg4 harg4 arg5 harg5 arg6 harg6 arg7 harg7 arg8 harg8 arg9 harg9 arg10 harg10 arg11 harg11 arg12 harg12 hc0 x0 x1 x2 x3 x4 x5 x6
      = fun j => (st2 x1 x2 x4 x5 (fun _ => (0 : EReal)) (fun _ => (0 : EReal)) (fun _ => ninf) (j 0)).m := by
  unfold sout0_A_2
  rw [View.read_writes_eq_canon _ _ _ (scover0_A_2 _ _ _ _ _ _ _ _ _ _ _ _ _ _ _ _ _ _ _ _ _ _ _ _ _ _ _ _ _ _ _ _)]
  unfold kernelRun0_A
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, cov_C, cov_n, cov_m, lane_zero]
  refine (View.canon_cons_unit_zero (Val := Elt Ideal) (S := S16x1x128) (e := .f32) (by decide) _ _ _).trans ?_
  rw [shapeCast_self]
  refine ext3 fun p e d => ?_
  have bc : ∀ (X : FVec Ideal S16x1x1 .f32) (h h'), broadcastTo S16x1x128 (shapeCast S16x1x1 X h) h' (ix3 p e d) = X (ix3 p 0 0) :=
    fun X h h' => by pointwise
  refine (bc _ _ _).trans ?_
  refine (m2 (CMid x1 x2 x4 x5 (fun _ => (0 : EReal)) (fun _ => ninf)) (nMid x1 x4 x5 (fun _ => (0 : EReal)) (fun _ => ninf)) (mMid x4 x5 (fun _ => ninf)) _ _ p).trans ?_
  rw [mid_eq]
  rfl

theorem out_A (c : Dev nD) (i : grid0.Coords) (arg2 : Memref sig .tc .vmem S4x128x512 .f32) (harg2 : arg2.IsWhole) (arg3 : Memref sig .tc .vmem S4x128x512 .f32) (harg3 : arg3.IsWhole) (arg4 : Memref sig .tc .vmem S4x128x512 .f32) (harg4 : arg4.IsWhole) (arg5 : Memref sig .tc .vmem S4x128x512 .f32) (harg5 : arg5.IsWhole) (arg6 : Memref sig .tc .vmem S4x128x128 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S4x128x512 .bf16) (harg9 : arg9.IsWhole) (arg10 : Memref sig .tc .vmem S16x128x128 .f32) (harg10 : arg10.IsWhole) (arg11 : Memref sig .tc .vmem S16x1x128 .f32) (harg11 : arg11.IsWhole) (arg12 : Memref sig .tc .vmem S16x1x128 .f32) (harg12 : arg12.IsWhole) (hc0 : cond0_0 i) (x0 : FVec Ideal S4x128x512 .f32) (x1 : FVec Ideal S4x128x512 .f32) (x2 : FVec Ideal S4x128x512 .f32) (x3 : FVec Ideal S4x128x512 .f32) (x4 : FVec Ideal S4x128x128 .f32) (x5 : FVec Ideal S1x128 .f32) (x6 : FVec Ideal S1x512 .f32) :
    out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6
      = outG x3 (outs x0 x1 x2 x4 x5 x6 (fun _ => (0 : EReal)) (fun _ => (0 : EReal)) (fun _ => ninf)) := by
  unfold out0_A_7
  rw [View.read_writes_eq_canon _ _ _ (cover0_A_7 _ _ _ _ _ _ _ _ _ _ _ _ _ _ _ _ _ _ _ _ _ _ _ _ _ _ _ _ _ _ _ _ )]
  funext y
  have hc := cover0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 y
  generalize hL : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).1 = L at hc ⊢
  refine View.canon_apply_of_pieces (Val := Elt Ideal) (S := S4x128x512) (e := .bf16) (outG x3 (outs x0 x1 x2 x4 x5 x6 (fun _ => (0 : EReal)) (fun _ => (0 : EReal)) (fun _ => ninf))) L ?_ y hc
  rw [← hL]
  clear hL hc
  unfold kernelRun0_A
  dsimp only
  sl_unfold_words
  simp only [Dev.tc, Proc.kind, scan0, scan1, scan2, scan3]
  simp only [k0_pay1, k0_pay6, k0_pay7, k0_pay8, k0_pay9, k0_pay26, k0_pay27, k0_pay28, k0_pay29, k0_pay30, k0_pay31,
    k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64,
    k0_pay65, k0_pay66, k0_pay67, k0_pay68, k0_pay69, k0_pay160, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay255, k0_pay267, k0_pay268, k0_pay269, k0_pay270, k0_pay271, k0_pay272,
    k0_pay273, k0_pay274, k0_pay275, k0_pay276, k0_pay277, k0_pay278, k0_pay279, k0_pay280, k0_pay281, k0_pay282,
    k0_pay283, k0_pay284, k0_pay285, k0_pay286, k0_pay287, k0_pay288]
  simp (disch := rfl) only [to_stk, scan0, scan1, scan2, scan3, slab_read, piece_read, slab_scaled, piece_slab, pieceT_slab, gslab_read,
    scan_gslab, pieceC_gslab, pieceR_gslab, pieceW_read]
  simp only [rows_stack, rowsT_stack, cols_stack0, cols_stack4, colsR_stack0, colsR_stack4, scales_stack, cov_C, cov_n, cov_m, lane_zero]
  simp only [List.forall_mem_cons]
  have h1 : ∀ p s d, k0_pay170 (F := Ideal) (scales x6) (k0_pay161 (F := Ideal) (fun _ => (0 : EReal)) (fun _ => (0 : EReal)) (lane (fun _ => ninf)) (rows x0 0) (rows (scaled x1) 0) (rows x2 0)
      (cols (summed (biased x4 x5)) 0 4) (k0_pay159 k0_pay5) (addf (subf (broadcastTo S16x64x64 (cols (summed (biased x4 x5)) 0 4) broadcasts_S16x64x1_S16x64x64)
                        (broadcastTo S16x64x64 (colsR (summed (biased x4 x5)) 0 4) broadcasts_S16x1x64_S16x64x64))
                      (broadcastTo S16x64x64 (colsR (biased x4 x5) 0 0) broadcasts_S16x1x64_S16x64x64)) (Scalar.ofBits (F := Ideal) .f32 0xFF800000#32)) (ix3 p s d)
      = outs x0 x1 x2 x4 x5 x6 (fun _ => (0 : EReal)) (fun _ => (0 : EReal)) (fun _ => ninf) 0 p s d := fun p s d =>
    (norm1 _ _ p s d).trans (congrArg (fun f => gn f (fun e => scales x6 (ix3 p 0 e)) d) (funext fun e =>
      out1 (fun _ => (0 : EReal)) (fun _ => (0 : EReal)) (lane (fun _ => ninf)) (rows x0 0) (rows (scaled x1) 0) (rows x2 0) (cols (summed (biased x4 x5)) 0 4) (cols (biased x4 x5) 0 0) _
        (dmat1 _ _ _ _ (colsR_cols _ _ _) (colsR_cols _ _ _) _ _ _) p s e))
  have h2 : ∀ p s d, k0_pay266 (F := Ideal) (scales x6) (k0_pay257 (F := Ideal) (CMid x1 x2 x4 x5 (fun _ => (0 : EReal)) (fun _ => ninf)) (nMid x1 x4 x5 (fun _ => (0 : EReal)) (fun _ => ninf)) (rows x0 64) (rows (scaled x1) 64) (rows x2 64)
      (cols (summed (biased x4 x5)) 64 4) (select (broadcastTo S16x64x64 (shapeCast S1x64x64 (shapeCast S1x64x64 k0_pay5 shapeCasts_S64x64_S1x64x64) shapeCasts_S1x64x64_S1x64x64) broadcasts_S1x64x64_S16x64x64)
        (addf (subf (broadcastTo S16x64x64 (cols (summed (biased x4 x5)) 64 4) broadcasts_S16x64x1_S16x64x64)
                        (broadcastTo S16x64x64 (colsR (summed (biased x4 x5)) 64 4) broadcasts_S16x1x64_S16x64x64))
                      (broadcastTo S16x64x64 (colsR (biased x4 x5) 64 0) broadcasts_S16x1x64_S16x64x64)) (broadcast S16x64x64 (Scalar.ofBits (F := Ideal) .f32 0xFF800000#32)))
      (k0_pay256 (F := Ideal) (mMid x4 x5 (fun _ => ninf)))) (ix3 p s d)
      = outs x0 x1 x2 x4 x5 x6 (fun _ => (0 : EReal)) (fun _ => (0 : EReal)) (fun _ => ninf) 1 p s d := fun p s d =>
    (norm2 _ _ p s d).trans (congrArg (fun f => gn f (fun e => scales x6 (ix3 p 0 e)) d) (funext fun e =>
      (out2 (CMid x1 x2 x4 x5 (fun _ => (0 : EReal)) (fun _ => ninf)) (nMid x1 x4 x5 (fun _ => (0 : EReal)) (fun _ => ninf)) (mMid x4 x5 (fun _ => ninf)) (rows x0 64) (rows (scaled x1) 64) (rows x2 64) (cols (summed (biased x4 x5)) 64 4) (cols (biased x4 x5) 64 0) _
        (dmat2 _ _ _ _ (colsR_cols _ _ _) (colsR_cols _ _ _) _ _ _ _ _ _) p s e).trans (by rw [mid_eq]; rfl)))
  iterate 16 refine ⟨fun x => piece_out arg5 harg5 x3 _ _ 1 _ _ _ _ h2 (by decide) _ _ _ _ _ _ _ x, ?_⟩
  iterate 16 refine ⟨fun x => piece_out arg5 harg5 x3 _ _ 0 _ _ _ _ h1 (by decide) _ _ _ _ _ _ _ x, ?_⟩
  exact fun p hp => absurd hp List.not_mem_nil

end

end MLstm
-- ==== Proof.Data.lean ====
module
public import proofs.«01_k».proof.Proof.Chunk

/-! The recurrence of one head, from the projections. -/

@[expose] public section

open Idealize.ShloMosaic

namespace MLstm

noncomputable section

variable (X : FVec Ideal ⟨2, ![8192, 5760]⟩ .f32) (bi bf : FVec Ideal ⟨1, ![4]⟩ .f32) (w : FVec Ideal ⟨1, ![512]⟩ .f32)

/-- The projection of token `T` of batch entry `b`, at lane `l`. -/
def pj (b T l : ℕ) : EReal := X (ix2 (Fin.ofNat 8192 (2048 * b + T)) (Fin.ofNat 5760 l))

/-- The queries of chunk `j` of head `p`. -/
def gQ (p j : ℕ) (s : Fin 64) (e : Fin 128) : EReal := pj X (p / 4) (64 * j + s.val) (128 * (p % 4) + e.val)

/-- The keys, scaled. -/
def gK (p j : ℕ) (s : Fin 64) (e : Fin 128) : EReal :=
  pj X (p / 4) (64 * j + s.val) (512 + (128 * (p % 4) + e.val)) * Ideal.ofBits FTy.f32 0x3DB504F3#32

/-- The values. -/
def gV (p j : ℕ) (s : Fin 64) (e : Fin 128) : EReal := pj X (p / 4) (64 * j + s.val) (1024 + (128 * (p % 4) + e.val))

/-- The input gates. -/
def gI (p j : ℕ) (s : Fin 64) : EReal := pj X (p / 4) (64 * j + s.val) (5632 + p % 4) + bi (ix1 (Fin.ofNat 4 (p % 4)))

/-- The forget gates. -/
def gF (p j : ℕ) (s : Fin 64) : EReal := pj X (p / 4) (64 * j + s.val) (5636 + p % 4) + bf (ix1 (Fin.ofNat 4 (p % 4)))

/-- The logarithms of the forget gates, summed along the chunk. -/
def gB (p j : ℕ) (s : Fin 64) : EReal := pre (fun t => lsig (gF X bf p j t)) s

/-- The state of head `p` before chunk `j`. -/
def gS (p j : ℕ) : St := states (gK X p) (gV X p) (gB X bf p) (gI X bi p) j

/-- The output of the recurrence. -/
def gH (p j : ℕ) (s : Fin 64) (e : Fin 128) : EReal :=
  hh (gQ X p j) (gK X p j) (gV X p j) (gB X bf p j) (gI X bi p j) (gS X bi bf p j) s e

/-- The normalised output of the recurrence. -/
def gN (p j : ℕ) (s : Fin 64) (d : Fin 128) : EReal :=
  gn (gH X bi bf p j s) (fun e => w (ix1 (Fin.ofNat 512 (128 * (p % 4) + e.val)))) d

/-- The layer's output for token `T` of batch entry `b`, at channel `e`. -/
def ans (b T e : ℕ) : EReal :=
  Ideal.logistic (pj X b T (1536 + e)) * gN X bi bf w (4 * b + e / 128) (T / 64) (Fin.ofNat 64 T) (Fin.ofNat 128 e)

theorem gS_succ (p j : ℕ) : gS X bi bf p (j + 1) = (gS X bi bf p j).next (gK X p j) (gV X p j) (gB X bf p j) (gI X bi p j) := rfl

end
end MLstm
-- ==== Proof.KernelFinal.lean ====
module
public import proofs.«01_k».proof.Proof.KernelStep
public import proofs.«01_k».proof.Proof.Data
public import proofs.«01_k».proof.Proof.Gen.KernelIdeal.Value
public import Idealize.ShloMosaic.Lib.Claim
public import Idealize.ShloMosaic.Lib.StableHlo.Run
public import Idealize.ShloMosaic.Lib.Pipeline.ValueKit.Geometry
public import Idealize.ShloMosaic.Lib.Pipeline.ValueKit.Point

/-! The kernel as a whole: its blocks read off the arguments, the state carried from grid point to grid point, its
    result. -/

@[expose] public section

set_option maxRecDepth 16384

open Cert.KernelIdeal Cert.KernelIdeal.Gen Idealize.ShloMosaic Idealize.ShloMosaic.TcCoe Idealize.SL.Sem

namespace MLstm

noncomputable section

variable (m : (ℓ : Loc nD τ sig) → Buf (Elt Ideal) ℓ)

/-- The projections as the kernel is handed them. -/
def proj (c : Dev nD) : FVec Ideal S8192x5760 .f32 := m ((c : Thread nD τ).loc main_arg0)

theorem ext2' {a b : ℕ} {i i' : Fin a} {j j' : Fin b} (hi : i.val = i'.val) (hj : j.val = j'.val) : ix2 i j = ix2 i' j' := by
  rw [Fin.ext hi, Fin.ext hj]

theorem places : ∀ t : Fin cfg0.N, win0_0.index t = ![0, t.val, 0] ∧ win0_1.index t = ![0, t.val, 1] ∧ win0_2.index t = ![0, t.val, 2]
    ∧ win0_3.index t = ![0, t.val, 3] ∧ win0_4.index t = ![0, t.val, 44] ∧ win0_5.index t = ![0, 0] ∧ win0_6.index t = ![0, 0] :=
  (by decide +kernel : ∀ t : Fin grid0.N, _)

theorem entry4 (c : Dev nD) (b : Fin 4) (r : Fin 2048) (l : Fin 5760) :
    V m c main_v4 (ix3 b r l) = proj m c (ix2 (Fin.ofNat 8192 (2048 * b.val + r.val)) l) := by
  entry_read
  pointwise
  refine congrArg (proj m c) (ext2' ?_ rfl)
  simp only [Fin.val_ofNat]
  omega

theorem idx3 {A B C : ℕ} (e : (⟨3, ![A, B, C]⟩ : Shape).Idx) {i : Fin A} {j : Fin B} {k : Fin C}
    (hi : (e 0).val = i.val) (hj : (e 1).val = j.val) (hk : (e 2).val = k.val) : e = ix3 i j k := by
  rw [eq_ix3 e]
  congr 1 <;> exact Fin.ext (by assumption)

theorem idx2 {A B : ℕ} (e : (⟨2, ![A, B]⟩ : Shape).Idx) {i : Fin A} {j : Fin B}
    (hi : (e 0).val = i.val) (hj : (e 1).val = j.val) : e = ix2 i j := by
  rw [eq_ix2 e]
  congr 1 <;> exact Fin.ext (by assumption)

theorem lt16 (t : Fin cfg0.N) : t.val < 16 := t.isLt

theorem block0 (c : Dev nD) (t : Fin cfg0.N) (b : Fin 4) (r : Fin 128) (l : Fin 512) :
    X0_0 m c t (ix3 b r l) = V m c main_v4 (ix3 b (Fin.ofNat 2048 (128 * t.val + r.val)) (Fin.ofNat 5760 (0 + l.val))) := by
  have := lt16 t
  unfold X0_0 Pipeline.Window.fill
  rw [dif_pos (moved0_0 t _)]
  refine congrArg (V m c main_v4) (idx3 _ ?_ ?_ ?_)
  · show win0_0.index t (0 : Fin 3) * 4 + 1 * b.val = _
    rw [congrFun (places t).1 0]
    simp
  · show win0_0.index t (1 : Fin 3) * 128 + 1 * r.val = _
    rw [congrFun (places t).1 1, Fin.val_ofNat]
    simp
    omega
  · show win0_0.index t (2 : Fin 3) * 512 + 1 * l.val = _
    rw [congrFun (places t).1 2, Fin.val_ofNat]
    simp
    omega

theorem block1 (c : Dev nD) (t : Fin cfg0.N) (b : Fin 4) (r : Fin 128) (l : Fin 512) :
    X0_1 m c t (ix3 b r l) = V m c main_v4 (ix3 b (Fin.ofNat 2048 (128 * t.val + r.val)) (Fin.ofNat 5760 (512 + l.val))) := by
  have := lt16 t
  unfold X0_1 Pipeline.Window.fill
  rw [dif_pos (moved0_1 t _)]
  refine congrArg (V m c main_v4) (idx3 _ ?_ ?_ ?_)
  · show win0_1.index t (0 : Fin 3) * 4 + 1 * b.val = _
    rw [congrFun (places t).2.1 0]
    simp
  · show win0_1.index t (1 : Fin 3) * 128 + 1 * r.val = _
    rw [congrFun (places t).2.1 1, Fin.val_ofNat]
    simp
    omega
  · show win0_1.index t (2 : Fin 3) * 512 + 1 * l.val = _
    rw [congrFun (places t).2.1 2, Fin.val_ofNat]
    simp
    omega

theorem block2 (c : Dev nD) (t : Fin cfg0.N) (b : Fin 4) (r : Fin 128) (l : Fin 512) :
    X0_2 m c t (ix3 b r l) = V m c main_v4 (ix3 b (Fin.ofNat 2048 (128 * t.val + r.val)) (Fin.ofNat 5760 (1024 + l.val))) := by
  have := lt16 t
  unfold X0_2 Pipeline.Window.fill
  rw [dif_pos (moved0_2 t _)]
  refine congrArg (V m c main_v4) (idx3 _ ?_ ?_ ?_)
  · show win0_2.index t (0 : Fin 3) * 4 + 1 * b.val = _
    rw [congrFun (places t).2.2.1 0]
    simp
  · show win0_2.index t (1 : Fin 3) * 128 + 1 * r.val = _
    rw [congrFun (places t).2.2.1 1, Fin.val_ofNat]
    simp
    omega
  · show win0_2.index t (2 : Fin 3) * 512 + 1 * l.val = _
    rw [congrFun (places t).2.2.1 2, Fin.val_ofNat]
    simp
    omega

theorem block3 (c : Dev nD) (t : Fin cfg0.N) (b : Fin 4) (r : Fin 128) (l : Fin 512) :
    X0_3 m c t (ix3 b r l) = V m c main_v4 (ix3 b (Fin.ofNat 2048 (128 * t.val + r.val)) (Fin.ofNat 5760 (1536 + l.val))) := by
  have := lt16 t
  unfold X0_3 Pipeline.Window.fill
  rw [dif_pos (moved0_3 t _)]
  refine congrArg (V m c main_v4) (idx3 _ ?_ ?_ ?_)
  · show win0_3.index t (0 : Fin 3) * 4 + 1 * b.val = _
    rw [congrFun (places t).2.2.2.1 0]
    simp
  · show win0_3.index t (1 : Fin 3) * 128 + 1 * r.val = _
    rw [congrFun (places t).2.2.2.1 1, Fin.val_ofNat]
    simp
    omega
  · show win0_3.index t (2 : Fin 3) * 512 + 1 * l.val = _
    rw [congrFun (places t).2.2.2.1 2, Fin.val_ofNat]
    simp
    omega

theorem block4 (c : Dev nD) (t : Fin cfg0.N) (b : Fin 4) (r : Fin 128) (l : Fin 128) :
    iblk m c 4 t (ix3 b r l) = V m c main_v4 (ix3 b (Fin.ofNat 2048 (128 * t.val + r.val)) (Fin.ofNat 5760 (5632 + l.val))) := by
  have := lt16 t
  refine congrArg (V m c main_v4) (idx3 _ ?_ ?_ ?_)
  · show win0_4.index t (0 : Fin 3) * 4 + 1 * b.val = _
    rw [congrFun (places t).2.2.2.2.1 0]
    simp
  · show win0_4.index t (1 : Fin 3) * 128 + 1 * r.val = _
    rw [congrFun (places t).2.2.2.2.1 1, Fin.val_ofNat]
    simp
    omega
  · show win0_4.index t (2 : Fin 3) * 128 + 1 * l.val = _
    rw [congrFun (places t).2.2.2.2.1 2, Fin.val_ofNat]
    simp
    omega

theorem block5 (c : Dev nD) (t : Fin cfg0.N) (l : Fin 128) :
    iblk m c 5 t (ix2 0 l) = V m c main_v2 (ix2 0 l) := by
  refine congrArg (V m c main_v2) (idx2 _ ?_ ?_)
  · show win0_5.index t (0 : Fin 2) * 1 + 1 * 0 = _
    rw [congrFun (places t).2.2.2.2.2.1 0]
    simp
  · show win0_5.index t (1 : Fin 2) * 128 + 1 * l.val = _
    rw [congrFun (places t).2.2.2.2.2.1 1]
    simp

theorem block6 (c : Dev nD) (t : Fin cfg0.N) (l : Fin 512) :
    iblk m c 6 t (ix2 0 l) = V m c main_v3 (ix2 0 l) := by
  refine congrArg (V m c main_v3) (idx2 _ ?_ ?_)
  · show win0_6.index t (0 : Fin 2) * 1 + 1 * 0 = _
    rw [congrFun (places t).2.2.2.2.2.2 0]
    simp
  · show win0_6.index t (1 : Fin 2) * 512 + 1 * l.val = _
    rw [congrFun (places t).2.2.2.2.2.2 1]
    simp

/-- The bias of the input gates, the bias of the forget gates, the scales of the normalisation. -/
def biasI (c : Dev nD) : FVec Ideal S4 .f32 := m ((c : Thread nD τ).loc main_arg1)
def biasF (c : Dev nD) : FVec Ideal S4 .f32 := m ((c : Thread nD τ).loc main_arg2)
def scaleN (c : Dev nD) : FVec Ideal S512 .f32 := m ((c : Thread nD τ).loc main_arg3)

theorem entry3 (c : Dev nD) (l : Fin 512) : V m c main_v3 (ix2 0 l) = scaleN m c (ix1 l) := by
  entry_read
  pointwise
  rfl

theorem entry2 (c : Dev nD) : V m c main_v2 = broadcastInDim S1x128 ![1] bcast_S128_S1x128_1
    (concatenate S128 0 [⟨S4, biasI m c⟩, ⟨S4, biasF m c⟩, ⟨S120, broadcastInDim S120 ![] bcast_S_S120 (constant (F := Ideal) S_ .f32 0x00000000#32)⟩]
      concatenates_S4_S4_S120_S128_d0) := by
  unfold V hostOps0
  simp only [StableHlo.after_cons, StableHlo.after_nil]
  after_results_simp
  rfl

theorem gates_apply (x y : FVec Ideal S4 .f32) (z : FVec Ideal S120 .f32) (h : Fin 4) :
    broadcastInDim S1x128 ![1] bcast_S128_S1x128_1 (concatenate S128 0 [⟨S4, x⟩, ⟨S4, y⟩, ⟨S120, z⟩] concatenates_S4_S4_S120_S128_d0)
        (ix2 0 (Fin.ofNat 128 (0 + h.val))) = x (ix1 h)
      ∧ broadcastInDim S1x128 ![1] bcast_S128_S1x128_1 (concatenate S128 0 [⟨S4, x⟩, ⟨S4, y⟩, ⟨S120, z⟩] concatenates_S4_S4_S120_S128_d0)
        (ix2 0 (Fin.ofNat 128 (4 + h.val))) = y (ix1 h) := by
  fin_cases h <;> constructor <;> pointwise

theorem entry2I (c : Dev nD) (h : ℕ) (hh : h < 4) : V m c main_v2 (ix2 0 (Fin.ofNat 128 (0 + h))) = biasI m c (ix1 (Fin.ofNat 4 h)) := by
  rw [entry2, ofNat_eq h hh]
  exact (gates_apply _ _ _ ⟨h, hh⟩).1

theorem entry2F (c : Dev nD) (h : ℕ) (hh : h < 4) : V m c main_v2 (ix2 0 (Fin.ofNat 128 (4 + h))) = biasF m c (ix1 (Fin.ofNat 4 h)) := by
  rw [entry2, ofNat_eq h hh]
  exact (gates_apply _ _ _ ⟨h, hh⟩).2

theorem entry_at (c : Dev nD) (b r l : ℕ) (b' : Fin 4) (r' : Fin 2048) (l' : Fin 5760) (hb : b'.val = b) (hr : r'.val = r) (hl : l'.val = l) :
    V m c main_v4 (ix3 b' r' l') = pj (proj m c) b r l := by
  rw [entry4]
  refine congrArg (proj m c) (ext2' ?_ ?_)
  · rw [hb, hr]
  · rw [← hl]
    exact mod_lt l'.isLt

section
variable (c : Dev nD) (t : Fin cfg0.N) (u : ℕ) (p : Fin 16)

theorem data_q (hu : u < 2) : mat (rows (X0_0 m c t) (64 * u)) p = gQ (proj m c) p.val (2 * t.val + u) := by
  funext s e
  have := lt16 t
  refine (block0 m c t _ _ _).trans (entry_at m c _ _ _ _ _ _ ?_ ?_ ?_) <;> simp [rows, piece] <;> omega

theorem data_k (hu : u < 2) : mat (rows (scaled (X0_1 m c t)) (64 * u)) p = gK (proj m c) p.val (2 * t.val + u) := by
  funext s e
  have := lt16 t
  refine congrArg (· * Ideal.ofBits FTy.f32 0x3DB504F3#32) ?_
  refine (block1 m c t _ _ _).trans (entry_at m c _ _ _ _ _ _ ?_ ?_ ?_) <;> simp <;> omega

theorem data_v (hu : u < 2) : mat (rows (X0_2 m c t) (64 * u)) p = gV (proj m c) p.val (2 * t.val + u) := by
  funext s e
  have := lt16 t
  refine (block2 m c t _ _ _).trans (entry_at m c _ _ _ _ _ _ ?_ ?_ ?_) <;> simp <;> omega

theorem data_i (hu : u < 2) : col (cols (biased (iblk m c 4 t) (iblk m c 5 t)) (64 * u) 0) p = gI (proj m c) (biasI m c) p.val (2 * t.val + u) := by
  funext s
  have := lt16 t
  refine congrArg₂ (· + ·) ?_ ?_
  · refine (block4 m c t _ _ _).trans (entry_at m c _ _ _ _ _ _ ?_ ?_ ?_) <;> simp <;> omega
  · exact (block5 m c t _).trans (entry2I m c _ (Nat.mod_lt _ (by decide)))

theorem data_f (hu : u < 2) (s : Fin 64) (r : Fin 128) (hr : r.val = 64 * u + s.val) :
    biased (iblk m c 4 t) (iblk m c 5 t) (ix3 (Fin.ofNat 4 (p.val / 4)) r (Fin.ofNat 128 (4 + p.val % 4)))
      = gF (proj m c) (biasF m c) p.val (2 * t.val + u) s := by
  have := lt16 t
  refine congrArg₂ (· + ·) ?_ ?_
  · refine (block4 m c t _ _ _).trans (entry_at m c _ _ _ _ _ _ ?_ ?_ ?_) <;> simp <;> omega
  · exact (block5 m c t _).trans (entry2F m c _ (Nat.mod_lt _ (by decide)))

theorem data_b (hu : u < 2) : col (cols (summed (biased (iblk m c 4 t) (iblk m c 5 t))) (64 * u) 4) p = gB (proj m c) (biasF m c) p.val (2 * t.val + u) := by
  funext s
  have hs := s.isLt
  refine (scanAll_apply _ (Fin.ofNat 128 (64 * u + s.val)) (Fin.ofNat 128 (4 + p.val % 4))).trans ?_
  rw [← mod_lt (n := 128) (k := 64 * u + s.val) (by omega), win_full]
  refine congrArg (fun f => pre f s) (funext fun t' => congrArg lsig ?_)
  exact data_f m c t u p hu t' _ (mod_lt (by omega)).symm

theorem data_step (hu : u < 2) (S : St) : stepAt (X0_1 m c t) (X0_2 m c t) (iblk m c 4 t) (iblk m c 5 t) (64 * u) p S
    = S.next (gK (proj m c) p.val (2 * t.val + u)) (gV (proj m c) p.val (2 * t.val + u)) (gB (proj m c) (biasF m c) p.val (2 * t.val + u))
        (gI (proj m c) (biasI m c) p.val (2 * t.val + u)) := by
  rw [stepAt, data_k m c t u p hu, data_v m c t u p hu, data_b m c t u p hu, data_i m c t u p hu]

theorem data_scale (s : Fin 128) : scales (iblk m c 6 t) (ix3 p 0 s) = scaleN m c (ix1 (Fin.ofNat 512 (128 * (p.val % 4) + s.val))) :=
  (block6 m c t _).trans (entry3 m c _)

end

/-- The heads' states before chunk `j`, as the kernel carries them. -/
def carryC (c : Dev nD) (j : ℕ) : FVec Ideal S16x128x128 .f32 :=
  fun y => (gS (proj m c) (biasI m c) (biasF m c) (y 0).val j).C (y 1) (y 2)
def carryN (c : Dev nD) (j : ℕ) : FVec Ideal S16x1x128 .f32 :=
  fun y => (gS (proj m c) (biasI m c) (biasF m c) (y 0).val j).n (y 2)
def carryM (c : Dev nD) (j : ℕ) : FVec Ideal S16x1x128 .f32 :=
  fun y => (gS (proj m c) (biasI m c) (biasF m c) (y 0).val j).m

section
variable (c : Dev nD) (t : Fin cfg0.N) (p : Fin 16)

theorem carry_st0 (j : ℕ) : st0 (carryC m c j) (carryN m c j) (carryM m c j) p = gS (proj m c) (biasI m c) (biasF m c) p.val j := rfl

theorem carry_st1 : st1 (X0_1 m c t) (X0_2 m c t) (iblk m c 4 t) (iblk m c 5 t) (carryC m c (2 * t.val)) (carryN m c (2 * t.val)) (carryM m c (2 * t.val)) p
    = gS (proj m c) (biasI m c) (biasF m c) p.val (2 * t.val + 1) :=
  data_step m c t 0 p (by decide) _

theorem carry_st2 : st2 (X0_1 m c t) (X0_2 m c t) (iblk m c 4 t) (iblk m c 5 t) (carryC m c (2 * t.val)) (carryN m c (2 * t.val)) (carryM m c (2 * t.val)) p
    = gS (proj m c) (biasI m c) (biasF m c) p.val (2 * (t.val + 1)) := by
  rw [st2, carry_st1]
  exact data_step m c t 1 p (by decide) _

theorem carry_out (u : ℕ) (hu : u < 2) (s : Fin 64) (d : Fin 128) :
    outs (X0_0 m c t) (X0_1 m c t) (X0_2 m c t) (iblk m c 4 t) (iblk m c 5 t) (iblk m c 6 t)
        (carryC m c (2 * t.val)) (carryN m c (2 * t.val)) (carryM m c (2 * t.val)) u p s d
      = gN (proj m c) (biasI m c) (biasF m c) (scaleN m c) p.val (2 * t.val + u) s d := by
  have hs : (if u = 0 then st0 (carryC m c (2 * t.val)) (carryN m c (2 * t.val)) (carryM m c (2 * t.val)) p
      else st1 (X0_1 m c t) (X0_2 m c t) (iblk m c 4 t) (iblk m c 5 t) (carryC m c (2 * t.val)) (carryN m c (2 * t.val)) (carryM m c (2 * t.val)) p)
      = gS (proj m c) (biasI m c) (biasF m c) p.val (2 * t.val + u) := by
    rw [carry_st1, carry_st0]
    rcases (show u = 0 ∨ u = 1 by omega) with h | h <;> subst h <;> rfl
  rw [outs, hs, outAt, data_q m c t u p hu, data_k m c t u p hu, data_v m c t u p hu, data_b m c t u p hu, data_i m c t u p hu,
    funext (data_scale m c t p)]
  rfl

theorem carry_ans (b : Fin 4) (r : Fin 128) (e : Fin 512) :
    outG (X0_3 m c t) (outs (X0_0 m c t) (X0_1 m c t) (X0_2 m c t) (iblk m c 4 t) (iblk m c 5 t) (iblk m c 6 t)
        (carryC m c (2 * t.val)) (carryN m c (2 * t.val)) (carryM m c (2 * t.val))) (ix3 b r e)
      = ans (proj m c) (biasI m c) (biasF m c) (scaleN m c) b.val (128 * t.val + r.val) e.val := by
  have := lt16 t
  refine congrArg₂ (· * ·) (congrArg Ideal.logistic ?_) ?_
  · refine (block3 m c t _ _ _).trans (entry_at m c _ _ _ _ _ _ ?_ ?_ ?_) <;> simp <;> omega
  · refine (carry_out m c t _ (r.val / 64) (by omega) _ _).trans ?_
    have h1 : (Fin.ofNat 16 (4 * b.val + e.val / 128)).val = 4 * b.val + e.val / 128 := (mod_lt (by omega)).symm
    have h2 : (128 * t.val + r.val) / 64 = 2 * t.val + r.val / 64 := by omega
    have h3 : Fin.ofNat 64 (128 * t.val + r.val) = Fin.ofNat 64 r.val := Fin.ext (by simp; omega)
    rw [h2, h3]
    exact congrArg (fun p => gN (proj m c) (biasI m c) (biasF m c) (scaleN m c) p (2 * t.val + r.val / 64) (Fin.ofNat 64 r.val) (Fin.ofNat 128 e.val)) h1

end

/-- What the kernel leaves after grid point `n`. -/
def Good (c : Dev nD) (n : ℕ) (hn : n < cfg0.N) : Prop :=
  (∀ (b : Fin 4) (r : Fin 128) (e : Fin 512), (outsAt0 m c n hn).1 (ix3 b r e)
      = ans (proj m c) (biasI m c) (biasF m c) (scaleN m c) b.val (128 * n + r.val) e.val)
    ∧ (outsAt0 m c n hn).2.1 = carryC m c (2 * (n + 1)) ∧ (outsAt0 m c n hn).2.2.1 = carryN m c (2 * (n + 1))
    ∧ (outsAt0 m c n hn).2.2.2 = carryM m c (2 * (n + 1))

theorem good (c : Dev nD) (n : ℕ) (hn : n < cfg0.N) : Good m c n hn := by
  induction n with
  | zero =>
    have e := outsAt0_A m c ⟨0, hn⟩ rfl
    unfold Good
    dsimp only at e
    rw [e]
    dsimp only
    rw [stateC_A, staten_A, statem_A, out_A]
    have k := carry_st2 m c ⟨0, hn⟩
    exact ⟨fun b r e => carry_ans m c ⟨0, hn⟩ b r e, funext fun y => congrArg (fun S : St => S.C (y 1) (y 2)) (k (y 0)),
      funext fun y => congrArg (fun S : St => S.n (y 2)) (k (y 0)), funext fun y => congrArg (fun S : St => S.m) (k (y 0))⟩
  | succ n ih =>
    have hlt := lt16 ⟨n + 1, hn⟩
    have e := outsAt0_B m c ⟨n + 1, hn⟩ (by dsimp only at hlt ⊢; omega)
    obtain ⟨_, i1, i2, i3⟩ := ih (Nat.lt_of_succ_lt hn)
    unfold Good
    dsimp only [Nat.add_sub_cancel] at e
    rw [e]
    dsimp only
    rw [stateC_B, staten_B, statem_B, out_B]
    have k := carry_st2 m c ⟨n + 1, hn⟩
    simp only [Nat.add_sub_cancel]
    rw [i1, i2, i3]
    exact ⟨fun b r e => carry_ans m c ⟨n + 1, hn⟩ b r e, funext fun y => congrArg (fun S : St => S.C (y 1) (y 2)) (k (y 0)),
      funext fun y => congrArg (fun S : St => S.n (y 2)) (k (y 0)), funext fun y => congrArg (fun S : St => S.m) (k (y 0))⟩

/-- The kernel's result. -/
theorem kernel_apply (c : Dev nD) (b : Fin 4) (T : Fin 2048) (e : Fin 512) :
    Cert.KernelIdeal.Value.G7 m c (ix3 b T e) = ans (proj m c) (biasI m c) (biasF m c) (scaleN m c) b.val T.val e.val := by
  have hp : Cert.KernelIdeal.Value.pt7Of (ix3 b T e) = T.val / 128 := by
    show 16 * (b.val / 4 - 0) + 1 * (T.val / 128 - 0) + 1 * (e.val / 512 - 0) = _
    omega
  have hN : cfg0.N = 16 := rfl
  have ht : T.val / 128 < cfg0.N := by omega
  have hl : Cert.KernelIdeal.Value.loc7Of (ix3 b T e) = ix3 b (Fin.ofNat 128 T.val) e :=
    idx3 _ (Nat.mod_eq_of_lt b.isLt) rfl (Nat.mod_eq_of_lt e.isLt)
  unfold Cert.KernelIdeal.Value.G7
  rw [dif_pos (by rw [hp]; exact ht), hl, ← Cert.KernelIdeal.Value.outsAt0_sweep m c _ (by rw [hp]; exact ht)]
  have g := (good m c (T.val / 128) ht).1 b (Fin.ofNat 128 T.val) e
  have hT : 128 * (T.val / 128) + (Fin.ofNat 128 T.val).val = T.val := by simp; omega
  rw [hT] at g
  rw [← g]
  simp only [hp]

end
end MLstm
-- ==== Proof.RefOps.lean ====
module
public import proofs.«01_k».proof.Proof.Data
public import proofs.«01_k».proof.Proof.Gen.ReferenceIdeal.Run

/-! The reference's window sum, slices and update, at an index. -/

@[expose] public section

set_option maxRecDepth 16384

open Cert.ReferenceIdeal Cert.ReferenceIdeal.Gen Cert.ReferenceIdeal.Value Idealize.ShloMosaic Idealize.ShloMosaic.TcCoe Idealize.SL.Sem

namespace MLstm

noncomputable section

theorem foldl_sum {β : Type} (g : β → EReal) (l : List β) (v : EReal) : l.foldl (fun r n => r + g n) v = v + (l.map g).sum := by
  induction l generalizing v with
  | nil => simp
  | cons a l ih => simp [ih, add_assoc]

/-- Sixty-four shifted window positions, of which those inside the chunk count. -/
theorem window_pre (f : Fin 64 → EReal) (s : Fin 64) :
    ∑ k : Fin 64, (if 63 ≤ s.val + k.val then f (Fin.ofNat 64 (s.val + k.val - 63)) else 0) = pre f s := by
  have hs := s.isLt
  have e := Finset.sum_range_add (fun k => if 63 ≤ s.val + k then f (Fin.ofNat 64 (s.val + k - 63)) else 0) (63 - s.val) (s.val + 1)
  rw [show 63 - s.val + (s.val + 1) = 64 by omega] at e
  rw [Fin.sum_univ_eq_sum_range (fun k => if 63 ≤ s.val + k then f (Fin.ofNat 64 (s.val + k - 63)) else 0) 64, e, pre]
  rw [Finset.sum_eq_zero fun k hk => if_neg (by have := Finset.mem_range.mp hk; omega), zero_add]
  refine Finset.sum_congr rfl fun k hk => ?_
  rw [if_pos (by omega), show s.val + (63 - s.val + k) - 63 = k by omega]

/-- One window position: the entry it lies on, or nothing. -/
theorem window_entry (x : FVec Ideal S4x4x64 .f32) (a b : Fin 4) (s : Fin 64) (w : (⟨3, ![1, 1, 64]⟩ : Shape).Idx) {P : Prop} {hD : Decidable P}
    (hP : P ↔ ∀ c : Fin 3, (![0, 0, 63] : Fin 3 → ℕ) c ≤ (ix3 a b s c).val * (![1, 1, 1] : Fin 3 → ℕ) c + (w c).val
      ∧ (ix3 a b s c).val * (![1, 1, 1] : Fin 3 → ℕ) c + (w c).val - (![0, 0, 63] : Fin 3 → ℕ) c < S4x4x64.size c) :
    (if hin : P then x (fun c => ⟨(ix3 a b s c).val * (![1, 1, 1] : Fin 3 → ℕ) c + (w c).val - (![0, 0, 63] : Fin 3 → ℕ) c,
        (hP.mp hin c).2⟩) else 0)
      = if 63 ≤ s.val + (w 2).val then x (ix3 a b (Fin.ofNat 64 (s.val + (w 2).val - 63))) else 0 := by
  have hs := s.isLt
  have ha := a.isLt
  have hb := b.isLt
  have w0 : (w 0).val < 1 := (w 0).isLt
  have w1 : (w 1).val < 1 := (w 1).isLt
  have w2 : (w 2).val < 64 := (w 2).isLt
  by_cases hk : 63 ≤ s.val + (w 2).val
  · rw [if_pos hk, dif_pos]
    · refine congrArg x (funext fun c => Fin.ext ?_)
      match c with
      | ⟨0, _⟩ => show a.val * 1 + (w 0).val - 0 = a.val; omega
      | ⟨1, _⟩ => show b.val * 1 + (w 1).val - 0 = b.val; omega
      | ⟨2, _⟩ => show s.val * 1 + (w 2).val - 63 = (s.val + (w 2).val - 63) % 64; omega
    · refine hP.mpr fun c => ?_
      match c with
      | ⟨0, _⟩ => show 0 ≤ a.val * 1 + (w 0).val ∧ a.val * 1 + (w 0).val - 0 < 4; omega
      | ⟨1, _⟩ => show 0 ≤ b.val * 1 + (w 1).val ∧ b.val * 1 + (w 1).val - 0 < 4; omega
      | ⟨2, _⟩ => show 63 ≤ s.val * 1 + (w 2).val ∧ s.val * 1 + (w 2).val - 63 < 64; omega
  · rw [if_neg hk, dif_neg]
    intro hin
    have h2 : 63 ≤ s.val * 1 + (w 2).val := (hP.mp hin 2).1
    omega

/-- The window sum along the last axis is the sum of the entries up to it. -/
theorem cumsum_apply (x : FVec Ideal S4x4x64 .f32) (init : FVec Ideal S_ .f32) (h0 : ∀ i, init i = 0) (h hu) (a b : Fin 4) (s : Fin 64) :
    Host.reduceWindowAdd (F := Ideal) ![1, 1, 64] ![1, 1, 1] ![0, 0, 63] ![0, 0, 0] x init h hu (ix3 a b s)
      = pre (fun t => x (ix3 a b t)) s := by
  have hs := s.isLt
  unfold Host.reduceWindowAdd
  rw [Ideal.hostReduceWindowAdd_def]
  unfold Ideal.hostReduceWindowAdd Host.reduceWindow
  dsimp only
  rw [foldl_sum, h0, zero_add, ← Fin.sum_univ_def]
  refine Eq.trans (Eq.trans ?_ (Equiv.sum_comp (Shape.rowMajor _).symm (fun w : (⟨3, ![1, 1, 64]⟩ : Shape).Idx =>
    if 63 ≤ s.val + (w 2).val then x (ix3 a b (Fin.ofNat 64 (s.val + (w 2).val - 63))) else 0))) ?_
  · exact Finset.sum_congr rfl fun n _ => window_entry x a b s ((Shape.rowMajor _).symm n) Iff.rfl
  · rw [sum_idx3]
    simp only [Fin.sum_univ_one]
    exact window_pre (fun t => x (ix3 a b t)) s

theorem clamp_at {r : ℕ} {d u : Fin r → ℕ} (h : (⟨r, u⟩ : Shape).rank = (⟨r, d⟩ : Shape).rank) (st : Fin r → ℤ) (a : Fin r) (k : ℕ) (hk : st a = k) (hle : k + u a ≤ d a) :
    Host.clampedStart ⟨r, d⟩ ⟨r, u⟩ h st a = k := Host.clampedStart_of_le h st a k hk hle

theorem slice5 (j : Fin 32) (x : FVec Ideal S32x4x4x64x128 .f32) (st : Fin 5 → ℤ) (h0 : st 0 = j.val) (h1 : st 1 = 0) (h2 : st 2 = 0)
    (h3 : st 3 = 0) (h4 : st 4 = 0) (h hs) (a b : Fin 4) (s : Fin 64) (e : Fin 128) :
    shapeCast S4x4x64x128 (Host.dynamicSlice S1x4x4x64x128 x st h) hs (ix4 a b s e) = x (ix5 j a b s e) := by
  have c0 := clamp_at (d := ![32, 4, 4, 64, 128]) (u := ![1, 4, 4, 64, 128]) rfl st 0 j.val h0 (Nat.succ_le_of_lt j.isLt)
  have c1 := clamp_at (d := ![32, 4, 4, 64, 128]) (u := ![1, 4, 4, 64, 128]) rfl st 1 0 h1 (by decide)
  have c2 := clamp_at (d := ![32, 4, 4, 64, 128]) (u := ![1, 4, 4, 64, 128]) rfl st 2 0 h2 (by decide)
  have c3 := clamp_at (d := ![32, 4, 4, 64, 128]) (u := ![1, 4, 4, 64, 128]) rfl st 3 0 h3 (by decide)
  have c4 := clamp_at (d := ![32, 4, 4, 64, 128]) (u := ![1, 4, 4, 64, 128]) rfl st 4 0 h4 (by decide)
  pointwise
  simp only [c0, c1, c2, c3, c4, zero_add, Fin.eta]

theorem slice4 (j : Fin 32) (x : FVec Ideal S32x4x4x64 .f32) (st : Fin 4 → ℤ) (h0 : st 0 = j.val) (h1 : st 1 = 0) (h2 : st 2 = 0)
    (h3 : st 3 = 0) (h hs) (a b : Fin 4) (s : Fin 64) :
    shapeCast S4x4x64 (Host.dynamicSlice S1x4x4x64 x st h) hs (ix3 a b s) = x (ix4 j a b s) := by
  have c0 := clamp_at (d := ![32, 4, 4, 64]) (u := ![1, 4, 4, 64]) rfl st 0 j.val h0 (Nat.succ_le_of_lt j.isLt)
  have c1 := clamp_at (d := ![32, 4, 4, 64]) (u := ![1, 4, 4, 64]) rfl st 1 0 h1 (by decide)
  have c2 := clamp_at (d := ![32, 4, 4, 64]) (u := ![1, 4, 4, 64]) rfl st 2 0 h2 (by decide)
  have c3 := clamp_at (d := ![32, 4, 4, 64]) (u := ![1, 4, 4, 64]) rfl st 3 0 h3 (by decide)
  pointwise
  simp only [c0, c1, c2, c3, zero_add, Fin.eta]

theorem update5 (j : Fin 32) (x : FVec Ideal S32x4x4x64x128 .f32) (y : FVec Ideal S1x4x4x64x128 .f32) (st : Fin 5 → ℤ) (h0 : st 0 = j.val)
    (h1 : st 1 = 0) (h2 : st 2 = 0) (h3 : st 3 = 0) (h4 : st 4 = 0) (h) (i : Fin 32) (a b : Fin 4) (s : Fin 64) (e : Fin 128) :
    Host.dynamicUpdateSlice x y st h (ix5 i a b s e) = if i = j then y (ix5 0 a b s e) else x (ix5 i a b s e) := by
  have c0 := clamp_at (d := ![32, 4, 4, 64, 128]) (u := ![1, 4, 4, 64, 128]) rfl st 0 j.val h0 (Nat.succ_le_of_lt j.isLt)
  have c1 := clamp_at (d := ![32, 4, 4, 64, 128]) (u := ![1, 4, 4, 64, 128]) rfl st 1 0 h1 (by decide)
  have c2 := clamp_at (d := ![32, 4, 4, 64, 128]) (u := ![1, 4, 4, 64, 128]) rfl st 2 0 h2 (by decide)
  have c3 := clamp_at (d := ![32, 4, 4, 64, 128]) (u := ![1, 4, 4, 64, 128]) rfl st 3 0 h3 (by decide)
  have c4 := clamp_at (d := ![32, 4, 4, 64, 128]) (u := ![1, 4, 4, 64, 128]) rfl st 4 0 h4 (by decide)
  pointwise
  simp only [c0, c1, c2, c3, c4]
  by_cases hi : i = j
  · subst hi
    rw [if_pos rfl, dif_pos (by omega)]
    simp only [Nat.sub_self, Nat.sub_zero, Fin.eta]
    rfl
  · rw [if_neg hi, dif_neg]
    intro hc
    exact hi (Fin.ext (by omega))

end
end MLstm
-- ==== Proof.RefStep.lean ====
module
public import proofs.«01_k».proof.Proof.RefOps

/-! One trip of the reference's scan. -/

@[expose] public section

set_option maxRecDepth 16384

open Cert.ReferenceIdeal Cert.ReferenceIdeal.Gen Cert.ReferenceIdeal.Value Idealize.ShloMosaic Idealize.ShloMosaic.StableHlo Idealize.ShloMosaic.TcCoe Idealize.SL.Sem

namespace MLstm

noncomputable section

variable (W : Valuation τ sig (Elt Ideal)) (j : Fin 32) (a b : Fin 4)

/-- The trip's queries, keys, values, gates and state, of one head. -/
def tq (s : Fin 64) (e : Fin 128) : EReal := (W (Proc.devRef .tc main_v39_0) : FVec Ideal S32x4x4x64x128 .f32) (ix5 j a b s e)
def tk (s : Fin 64) (e : Fin 128) : EReal := (W (Proc.devRef .tc main_v39_1) : FVec Ideal S32x4x4x64x128 .f32) (ix5 j a b s e)
def tv (s : Fin 64) (e : Fin 128) : EReal := (W (Proc.devRef .tc main_v39_2) : FVec Ideal S32x4x4x64x128 .f32) (ix5 j a b s e)
def ti (s : Fin 64) : EReal := (W (Proc.devRef .tc main_v39_3) : FVec Ideal S32x4x4x64 .f32) (ix4 j a b s)
def tb (s : Fin 64) : EReal := pre (fun t => (W (Proc.devRef .tc main_v39_4) : FVec Ideal S32x4x4x64 .f32) (ix4 j a b t)) s
def tS : St := ⟨fun e d => (W (Proc.devRef .tc main_v39_7) : FVec Ideal S4x4x128x128 .f32) (ix4 a b e d),
  fun d => (W (Proc.devRef .tc main_v39_8) : FVec Ideal S4x4x128 .f32) (ix3 a b d), (W (Proc.devRef .tc main_v39_9) : FVec Ideal S4x4 .f32) (ix2 a b)⟩

/-- The trip counts `j`, and the mask is causal. -/
structure Trip : Prop where
  count : ∀ i, (W (Proc.devRef .tc main_v39_6) : IVec S_ 32) i = BitVec.ofNat 32 j.val
  mask : ∀ s t : Fin 64, (W (Proc.devRef .tc main_v39_5) : IVec S64x64 1) (ix2 s t) = if t ≤ s then 1#1 else 0#1

variable {W j} (h : Trip W j)
include h

theorem trip_start (i) : (((W (Proc.devRef .tc main_v39_6) : IVec S_ 32) i).toInt : ℤ) = j.val := by
  rw [h.count]
  have := j.isLt
  rw [BitVec.toInt_eq_toNat_of_lt] <;> simp <;> omega

theorem r74 (s : Fin 64) (e : Fin 128) : res_main_while0b_v74 (F := Ideal) W (ix4 a b s e) = tq W j a b s e := by
  unfold res_main_while0b_v74
  exact slice5 j _ _ (trip_start h _) rfl rfl rfl rfl _ _ a b s e

theorem r75 (s : Fin 64) (e : Fin 128) : res_main_while0b_v75 (F := Ideal) W (ix4 a b s e) = tk W j a b s e := by
  unfold res_main_while0b_v75
  exact slice5 j _ _ (trip_start h _) rfl rfl rfl rfl _ _ a b s e

theorem r76 (s : Fin 64) (e : Fin 128) : res_main_while0b_v76 (F := Ideal) W (ix4 a b s e) = tv W j a b s e := by
  unfold res_main_while0b_v76
  exact slice5 j _ _ (trip_start h _) rfl rfl rfl rfl _ _ a b s e

theorem r77 (s : Fin 64) : res_main_while0b_v77 (F := Ideal) W (ix3 a b s) = ti W j a b s := by
  unfold res_main_while0b_v77
  exact slice4 j _ _ (trip_start h _) rfl rfl rfl _ _ a b s

theorem r79 (s : Fin 64) : res_main_while0b_v79 (F := Ideal) W (ix3 a b s) = tb W j a b s := by
  unfold res_main_while0b_v79
  refine (cumsum_apply _ _ (fun i => ?_) _ _ a b s).trans ?_
  · exact Ideal.ofBits_zero FTy.f32
  · exact congrArg (fun f => pre f s) (funext fun t => slice4 j _ _ (trip_start h _) rfl rfl rfl _ _ a b t)

theorem r88 (s t : Fin 64) : res_main_while0b_v88 (F := Ideal) W (ix4 a b s t) = dm (tb W j a b) (ti W j a b) s t := by
  unfold res_main_while0b_v88
  pointwise
  rw [h.mask]
  unfold dm
  split
  · simp only [Scalar.select, r79 a b h, r77 a b h]
    rfl
  · rfl

theorem r91 (s : Fin 64) : res_main_while0b_v91 (F := Ideal) W (ix3 a b s) = tb W j a b s + (tS W a b).m := by
  unfold res_main_while0b_v91
  pointwise
  rw [r79 a b h]
  rfl

theorem r93 (s : Fin 64) : res_main_while0b_v93 (F := Ideal) W (ix3 a b s) = mt (tb W j a b) (ti W j a b) (tS W a b) s := by
  unfold res_main_while0b_v93
  pointwise
  exact congrArg₂ (max : EReal → EReal → EReal) (r91 a b h s)
    ((Shape.ReducesTo.fold_fiber_r4_a3 (n0 := 4) (n1 := 4) (n2 := 64) (n3 := 64) reducesTo_S4x4x64x64_S4x4x64_d3
      (ix3 a b s) max ninf _).trans
      (congrArg (fun f => Finset.fold max ninf f Finset.univ) (funext fun t => r88 a b h s t)))

theorem r99 (s t : Fin 64) : res_main_while0b_v99 (F := Ideal) W (ix4 a b s t) = sc (tq W j a b) (tk W j a b) (tb W j a b) (ti W j a b) (tS W a b) s t := by
  unfold res_main_while0b_v99
  pointwise
  simp only [r74 a b h, r75 a b h, r88 a b h, r93 a b h]
  rfl

theorem r101 (s : Fin 64) : res_main_while0b_v101 (F := Ideal) W (ix3 a b s) = wi (tb W j a b) (ti W j a b) (tS W a b) s := by
  unfold res_main_while0b_v101
  pointwise
  simp only [r91 a b h, r93 a b h]
  rfl

theorem r120 : res_main_while0b_v120 (F := Ideal) W (ix2 a b) = tb W j a b 63 := by
  unfold res_main_while0b_v120
  pointwise
  exact r79 a b h 63

theorem r124 (t : Fin 64) : res_main_while0b_v124 (F := Ideal) W (ix3 a b t) = gg (tb W j a b) (ti W j a b) t := by
  unfold res_main_while0b_v124
  pointwise
  simp only [r120 a b h, r79 a b h, r77 a b h]
  rfl

theorem r127 : res_main_while0b_v127 (F := Ideal) W (ix2 a b) = mNew (tb W j a b) (ti W j a b) (tS W a b) := by
  unfold res_main_while0b_v127
  pointwise
  exact congrArg₂ (max : EReal → EReal → EReal) (congrArg (fun x : EReal => x + (tS W a b).m) (r120 a b h))
    ((Shape.ReducesTo.fold_fiber_r3_a2 (n0 := 4) (n1 := 4) (n2 := 64) reducesTo_S4x4x64_S4x4_d2
      (ix2 a b) max ninf _).trans
      (congrArg (fun f => Finset.fold max ninf f Finset.univ) (funext fun t => r124 a b h t)))

theorem r131 (t : Fin 64) : res_main_while0b_v131 (F := Ideal) W (ix3 a b t) = wk (tb W j a b) (ti W j a b) (tS W a b) t := by
  unfold res_main_while0b_v131
  pointwise
  simp only [r124 a b h, r127 a b h]
  rfl

theorem r134 : res_main_while0b_v134 (F := Ideal) W (ix2 a b) = dec (tb W j a b) (ti W j a b) (tS W a b) := by
  unfold res_main_while0b_v134
  pointwise
  simp only [r120 a b h, r127 a b h]
  rfl

theorem trip_C (e d : Fin 128) : (tS (STEP W) a b).C e d
    = ((tS W a b).next (tk W j a b) (tv W j a b) (tb W j a b) (ti W j a b)).C e d := by
  show step_main_v39_7 (F := Ideal) W (ix4 a b e d) = _
  unfold step_main_v39_7
  simp only [id]
  pointwise
  simp only [r134 a b h, r131 a b h, r75 a b h, r76 a b h]
  exact congrArg₂ (fun x y : EReal => x + y) rfl
    (Finset.sum_congr rfl fun t _ => by rw [mul_comm (wk _ _ _ t : EReal), mul_assoc])

theorem trip_n (d : Fin 128) : (tS (STEP W) a b).n d
    = ((tS W a b).next (tk W j a b) (tv W j a b) (tb W j a b) (ti W j a b)).n d := by
  show step_main_v39_8 (F := Ideal) W (ix3 a b d) = _
  unfold step_main_v39_8
  simp only [id]
  pointwise
  simp only [r134 a b h, r131 a b h, r75 a b h]
  rfl

theorem trip_state : tS (STEP W) a b = (tS W a b).next (tk W j a b) (tv W j a b) (tb W j a b) (ti W j a b) := by
  have hC := funext fun e => funext fun d => trip_C a b h e d
  have hn := funext fun d => trip_n a b h d
  have hm : (tS (STEP W) a b).m = ((tS W a b).next (tk W j a b) (tv W j a b) (tb W j a b) (ti W j a b)).m :=
    r127 a b h
  exact congr (congr (congrArg St.mk hC) hn) hm

theorem trip_row (i : Fin 32) (s : Fin 64) (e : Fin 128) :
    (STEP W (Proc.devRef .tc main_v39_10) : FVec Ideal S32x4x4x64x128 .f32) (ix5 i a b s e)
      = if i = j then hh (tq W j a b) (tk W j a b) (tv W j a b) (tb W j a b) (ti W j a b) (tS W a b) s e
        else (W (Proc.devRef .tc main_v39_10) : FVec Ideal S32x4x4x64x128 .f32) (ix5 i a b s e) := by
  show step_main_v39_10 (F := Ideal) W (ix5 i a b s e) = _
  unfold step_main_v39_10
  refine (update5 j _ _ _ (trip_start h _) rfl rfl rfl rfl _ i a b s e).trans ?_
  refine if_congr Iff.rfl ?_ rfl
  pointwise
  simp only [r74 a b h, r76 a b h, r93 a b h, r99 a b h, r101 a b h]
  unfold hh den
  rw [zero_sub]
  rfl

end
end MLstm
-- ==== Proof.RefEntry.lean ====
module
public import proofs.«01_k».proof.Proof.RefStep

/-! What the reference's scan starts from. -/

@[expose] public section

set_option maxRecDepth 65536

open Cert.ReferenceIdeal Cert.ReferenceIdeal.Gen Cert.ReferenceIdeal.Value Idealize.ShloMosaic Idealize.ShloMosaic.StableHlo Idealize.ShloMosaic.TcCoe Idealize.SL.Sem

namespace MLstm

noncomputable section

variable (m : (ℓ : Loc nD τ sig) → Buf (Elt Ideal) ℓ) (c : Dev nD)

/-- The projections. -/
abbrev rX : FVec Ideal ⟨2, ![8192, 5760]⟩ .f32 := m ((c.tc : Thread nD τ).loc main_arg0)
/-- The bias of the input gates. -/
abbrev rI : FVec Ideal ⟨1, ![4]⟩ .f32 := m ((c.tc : Thread nD τ).loc main_arg1)
/-- The bias of the forget gates. -/
abbrev rF : FVec Ideal ⟨1, ![4]⟩ .f32 := m ((c.tc : Thread nD τ).loc main_arg2)
/-- The scale of the normalisation. -/
abbrev rW : FVec Ideal ⟨1, ![512]⟩ .f32 := m ((c.tc : Thread nD τ).loc main_arg3)

/-- The contents the scan starts from. -/
abbrev E0 : Valuation τ sig (Elt Ideal) := entryContents preI m c

variable (j : Fin 32) (a b : Fin 4)

theorem pos2 {a b : ℕ} {i i' : Fin a} {j j' : Fin b} (hi : i.val = i'.val) (hj : j.val = j'.val) : ix2 i j = ix2 i' j' := by
  rw [Fin.ext hi, Fin.ext hj]

theorem pj_of (X : FVec Ideal ⟨2, ![8192, 5760]⟩ .f32) {r : Fin 8192} {l : Fin 5760} {b T l' : ℕ}
    (hr : r.val = 2048 * b + T) (hl : l.val = l') : X (ix2 r l) = pj X b T l' := by
  unfold pj
  refine congrArg X (pos2 ?_ ?_)
  · exact hr.trans (Nat.mod_eq_of_lt (hr ▸ r.isLt)).symm
  · exact hl.trans (Nat.mod_eq_of_lt (hl ▸ l.isLt)).symm

/-- The tokens' channels, by head and chunk. -/
def chunks (Y : FVec Ideal S4x2048x512 .f32) : FVec Ideal S32x4x4x64x128 .f32 :=
  transpose S32x4x4x64x128 [2, 0, 1, 3, 4] (shapeCast S4x4x32x64x128
    (transpose S4x4x2048x128 [0, 2, 1, 3] (shapeCast S4x2048x4x128 Y shapeCasts_S4x2048x512_S4x2048x4x128) transposes_S4x2048x4x128_S4x4x2048x128_0_2_1_3)
    shapeCasts_S4x4x2048x128_S4x4x32x64x128) transposes_S4x4x32x64x128_S32x4x4x64x128_2_0_1_3_4

theorem chunks_apply (Y : FVec Ideal S4x2048x512 .f32) (s : Fin 64) (e : Fin 128) :
    chunks Y (ix5 j a b s e) = Y (ix3 a ⟨j.val * 64 + s.val, by omega⟩ ⟨b.val * 128 + e.val, by omega⟩) := by
  unfold chunks
  pointwise

/-- The projections, token by token. -/
def tokens : FVec Ideal S4x2048x5760 .f32 := shapeCast S4x2048x5760 (rX m c) shapeCasts_S8192x5760_S4x2048x5760

theorem tokens_apply (T : Fin 2048) (l : Fin 5760) : tokens m c (ix3 a T l) = pj (rX m c) a.val T.val l.val := by
  refine Eq.trans ?_ (pj_of (rX m c) (r := ⟨a.val * 2048 + T.val, by omega⟩) (l := l) (by simp only; omega) rfl)
  unfold tokens
  pointwise

theorem entry_q_eq : E0 m c (Proc.devRef .tc main_v39_0)
    = chunks (extractStridedSlice S4x2048x512 ![0, 0, 0] (tokens m c) slices_S4x2048x5760_S4x2048x512_0_0_0) := by
  simp only [entryContents, afterL_cons, afterL_nil]
  after_reads_simp
  rfl

theorem entry_k_eq : E0 m c (Proc.devRef .tc main_v39_1)
    = mulf (chunks (extractStridedSlice S4x2048x512 ![0, 0, 512] (tokens m c) slices_S4x2048x5760_S4x2048x512_0_0_512))
      (broadcastInDim S32x4x4x64x128 ![] bcast_S_S32x4x4x64x128 (constant S_ .f32 0x3DB504F3#32)) := by
  simp only [entryContents, afterL_cons, afterL_nil]
  after_reads_simp
  rfl

theorem entry_v_eq : E0 m c (Proc.devRef .tc main_v39_2)
    = chunks (extractStridedSlice S4x2048x512 ![0, 0, 1024] (tokens m c) slices_S4x2048x5760_S4x2048x512_0_0_1024) := by
  simp only [entryContents, afterL_cons, afterL_nil]
  after_reads_simp
  rfl

theorem entry_q (s : Fin 64) (e : Fin 128) : tq (E0 m c) j a b s e = gQ (rX m c) (4 * a.val + b.val) j.val s e := by
  unfold tq
  rw [entry_q_eq, chunks_apply]
  pointwise
  rw [tokens_apply]
  unfold gQ
  exact congr (congr (congrArg (pj _) (by omega)) (by simp only; omega)) (by simp only; omega)

theorem entry_k (s : Fin 64) (e : Fin 128) : tk (E0 m c) j a b s e = gK (rX m c) (4 * a.val + b.val) j.val s e := by
  unfold tk
  rw [entry_k_eq]
  pointwise
  rw [chunks_apply]
  pointwise
  rw [tokens_apply]
  unfold gK
  refine congrArg (fun x : EReal => x * Ideal.ofBits FTy.f32 0x3DB504F3#32) ?_
  exact congr (congr (congrArg (pj _) (by omega)) (by simp only; omega)) (by simp only; omega)

theorem entry_v (s : Fin 64) (e : Fin 128) : tv (E0 m c) j a b s e = gV (rX m c) (4 * a.val + b.val) j.val s e := by
  unfold tv
  rw [entry_v_eq, chunks_apply]
  pointwise
  rw [tokens_apply]
  unfold gV
  exact congr (congr (congrArg (pj _) (by omega)) (by simp only; omega)) (by simp only; omega)

theorem entry_i (s : Fin 64) : ti (E0 m c) j a b s = gI (rX m c) (rI m c) (4 * a.val + b.val) j.val s := by
  unfold ti
  simp only [entryContents, afterL_cons, afterL_nil]
  after_reads_simp
  simp only [id]
  pointwise
  unfold gI
  refine congrArg₂ (fun x y : EReal => x + y) (pj_of (rX m c) ?_ ?_) (congrArg (rI m c) (congrArg ix1 (Fin.ext ?_)))
  · simp only; omega
  · simp only; omega
  · show b.val = (4 * a.val + b.val) % 4 % 4
    omega

/-- The forget gates, head by head. -/
def fGate : FVec Ideal S4x4x2048 .f32 :=
  transpose S4x4x2048 [0, 2, 1] (addf (extractStridedSlice S4x2048x4 ![0, 0, 5636] (shapeCast S4x2048x5760 (rX m c) shapeCasts_S8192x5760_S4x2048x5760) slices_S4x2048x5760_S4x2048x4_0_0_5636)
    (broadcastInDim S4x2048x4 ![0, 1, 2] bcast_S1x1x4_S4x2048x4_0_1_2 (broadcastInDim S1x1x4 ![2] bcast_S4_S1x1x4_2 (rF m c)))) transposes_S4x2048x4_S4x4x2048_0_2_1

/-- Zero everywhere. -/
def zero3 : FVec Ideal S4x4x2048 .f32 := broadcastInDim S4x4x2048 ![] bcast_S_S4x4x2048 (constant S_ .f32 0x00000000#32)

/-- The logarithm of the logistic function, as the reference computes it. -/
def logSig (z : FVec Ideal S4x4x2048 .f32) : FVec Ideal S4x4x2048 .f32 :=
  Host.negf (select (cmpf .une (subf (Host.negf z) zero3) (subf (Host.negf z) zero3)) (addf (Host.negf z) zero3)
    (addf (maximumf (Host.negf z) zero3) (Host.log1p (Host.exp (Host.negf (Host.absf (subf (Host.negf z) zero3)))))))

/-- The causal mask. -/
def mask2 : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem entry_f_eq : E0 m c (Proc.devRef .tc main_v39_4)
    = transpose S32x4x4x64 [2, 0, 1, 3] (shapeCast S4x4x32x64 (logSig (fGate m c)) shapeCasts_S4x4x2048_S4x4x32x64) transposes_S4x4x32x64_S32x4x4x64_2_0_1_3 := by
  simp only [entryContents, afterL_cons, afterL_nil]
  after_reads_simp
  rfl

theorem entry_mask_eq : E0 m c (Proc.devRef .tc main_v39_5) = mask2 := by
  simp only [entryContents, afterL_cons, afterL_nil]
  after_reads_simp
  rfl

theorem logSig_apply (z : FVec Ideal S4x4x2048 .f32) (i : S4x4x2048.Idx) : logSig z i = lsig (z i) := by
  have hz : zero3 i = 0 := Ideal.ofBits_zero .f32
  unfold logSig
  refine Eq.trans ?_ (neg_softplus (z i))
  show -(Scalar.select (FloatOps.cmpf (F := Ideal) (φ := .f32) .une (-(z i) - zero3 i) (-(z i) - zero3 i)) (-(z i) + zero3 i)
    (max (-(z i)) (zero3 i) + Ideal.log1p (Ideal.exp (-max (-(z i) - zero3 i) (-(-(z i) - zero3 i)))))) = _
  rw [hz, Ideal.cmpf_def]
  simp [Ideal.cmp, Scalar.select]

theorem fGate_apply (T : Fin 2048) : fGate m c (ix3 a b T)
    = pj (rX m c) a.val T.val (5636 + b.val) + rF m c (ix1 b) := by
  unfold fGate
  pointwise
  refine congrArg₂ (fun x y : EReal => x + y) (pj_of (rX m c) ?_ rfl) rfl
  simp only; omega

theorem entry_f (s : Fin 64) : (E0 m c (Proc.devRef .tc main_v39_4) : FVec Ideal S32x4x4x64 .f32) (ix4 j a b s) = lsig (gF (rX m c) (rF m c) (4 * a.val + b.val) j.val s) := by
  rw [entry_f_eq]
  pointwise
  rw [logSig_apply, fGate_apply]
  refine congrArg lsig ?_
  unfold gF
  refine congrArg₂ (fun x y : EReal => x + y) ?_ (congrArg (rF m c) (congrArg ix1 (Fin.ext ?_)))
  · exact congr (congr (congrArg (pj _) (by omega)) (by simp only; omega)) (by omega)
  · show b.val = (4 * a.val + b.val) % 4 % 4
    omega

theorem entry_mask (s t : Fin 64) : (E0 m c (Proc.devRef .tc main_v39_5) : IVec S64x64 1) (ix2 s t) = if t ≤ s then 1#1 else 0#1 := by
  rw [entry_mask_eq]
  unfold mask2
  pointwise
  rw [show IntOp.addi (BitVec.ofNat 32 s.val) 0#32 = BitVec.ofNat 32 s.val from BitVec.add_zero _]
  exact select_mask s t 1#1 0#1

theorem entry_state : tS (E0 m c) a b = St.init := by
  unfold tS
  simp only [entryContents, afterL_cons, afterL_nil]
  after_reads_simp
  simp only [id]
  pointwise
  rfl

end
end MLstm
-- ==== Proof.RefFinal.lean ====
module
public import proofs.«01_k».proof.Proof.RefEntry

/-! The reference's scan, trip by trip, and what follows it. -/

@[expose] public section

set_option maxRecDepth 65536

open Cert.ReferenceIdeal Cert.ReferenceIdeal.Gen Cert.ReferenceIdeal.Value Idealize.ShloMosaic Idealize.ShloMosaic.StableHlo Idealize.ShloMosaic.TcCoe Idealize.SL.Sem

namespace MLstm

noncomputable section

variable (m : (ℓ : Loc nD τ sig) → Buf (Elt Ideal) ℓ) (c : Dev nD)

/-- What holds of the scan's buffers after `k` trips. -/
structure Inv (k : ℕ) (W : Valuation τ sig (Elt Ideal)) : Prop where
  count : ∀ i, (W (Proc.devRef .tc main_v39_6) : IVec S_ 32) i = BitVec.ofNat 32 k
  keepQ : W (Proc.devRef .tc main_v39_0) = E0 m c (Proc.devRef .tc main_v39_0)
  keepK : W (Proc.devRef .tc main_v39_1) = E0 m c (Proc.devRef .tc main_v39_1)
  keepV : W (Proc.devRef .tc main_v39_2) = E0 m c (Proc.devRef .tc main_v39_2)
  keepI : W (Proc.devRef .tc main_v39_3) = E0 m c (Proc.devRef .tc main_v39_3)
  keepF : W (Proc.devRef .tc main_v39_4) = E0 m c (Proc.devRef .tc main_v39_4)
  keepM : W (Proc.devRef .tc main_v39_5) = E0 m c (Proc.devRef .tc main_v39_5)
  state : ∀ a b : Fin 4, tS W a b = gS (rX m c) (rI m c) (rF m c) (4 * a.val + b.val) k
  row : ∀ (i : Fin 32) (a b : Fin 4) (s : Fin 64) (e : Fin 128), i.val < k →
    (W (Proc.devRef .tc main_v39_10) : FVec Ideal S32x4x4x64x128 .f32) (ix5 i a b s e)
      = gH (rX m c) (rI m c) (rF m c) (4 * a.val + b.val) i.val s e

theorem inv_zero : Inv m c 0 (E0 m c) where
  count i := congrFun (ctr_entry m c) i
  keepQ := rfl
  keepK := rfl
  keepV := rfl
  keepI := rfl
  keepF := rfl
  keepM := rfl
  state a b := entry_state m c a b
  row i a b s e h := absurd h (Nat.not_lt_zero _)

section
variable {m c} {W : Valuation τ sig (Elt Ideal)} {j : Fin 32} (H : Inv m c j.val W)
include H

theorem inv_trip : Trip W j where
  count := H.count
  mask s t := by rw [H.keepM]; exact entry_mask m c s t

theorem inv_q (a b : Fin 4) : tq W j a b = gQ (rX m c) (4 * a.val + b.val) j.val := by
  refine funext fun s => funext fun e => Eq.trans ?_ (entry_q m c j a b s e)
  unfold tq
  rw [H.keepQ]

theorem inv_k (a b : Fin 4) : tk W j a b = gK (rX m c) (4 * a.val + b.val) j.val := by
  refine funext fun s => funext fun e => Eq.trans ?_ (entry_k m c j a b s e)
  unfold tk
  rw [H.keepK]

theorem inv_v (a b : Fin 4) : tv W j a b = gV (rX m c) (4 * a.val + b.val) j.val := by
  refine funext fun s => funext fun e => Eq.trans ?_ (entry_v m c j a b s e)
  unfold tv
  rw [H.keepV]

theorem inv_i (a b : Fin 4) : ti W j a b = gI (rX m c) (rI m c) (4 * a.val + b.val) j.val := by
  refine funext fun s => Eq.trans ?_ (entry_i m c j a b s)
  unfold ti
  rw [H.keepI]

theorem inv_b (a b : Fin 4) : tb W j a b = gB (rX m c) (rF m c) (4 * a.val + b.val) j.val := by
  refine funext fun s => congrArg (fun f => pre f s) (funext fun t => ?_)
  rw [H.keepF]
  exact entry_f m c j a b t

theorem inv_step : Inv m c (j.val + 1) (STEP W) where
  count i := by
    rw [STEP_main_v39_6]
    show IntOp.addi ((W (Proc.devRef .tc main_v39_6) : IVec S_ 32) i) 1#32 = _
    rw [H.count i]
    exact (BitVec.ofNat_add j.val 1).symm
  keepQ := (STEP_main_v39_0 W).trans H.keepQ
  keepK := (STEP_main_v39_1 W).trans H.keepK
  keepV := (STEP_main_v39_2 W).trans H.keepV
  keepI := (STEP_main_v39_3 W).trans H.keepI
  keepF := (STEP_main_v39_4 W).trans H.keepF
  keepM := (STEP_main_v39_5 W).trans H.keepM
  state a b := by
    rw [trip_state a b (inv_trip H), gS_succ, inv_k H, inv_v H, inv_b H, inv_i H, H.state]
  row i a b s e h := by
    rw [trip_row a b (inv_trip H)]
    split
    · rename_i hi
      rw [inv_q H, inv_k H, inv_v H, inv_b H, inv_i H, H.state, hi]
      rfl
    · rename_i hi
      exact H.row i a b s e (lt_of_le_of_ne (Nat.le_of_lt_succ h) fun h' => hi (Fin.ext h'))

end

theorem inv_all : ∀ k, k ≤ 32 → Inv m c k (STEP^[k] (E0 m c))
  | 0, _ => inv_zero m c
  | k + 1, h => by
    rw [Function.iterate_succ_apply']
    exact inv_step (j := ⟨k, h⟩) (inv_all k (Nat.le_of_succ_le h))

theorem out_apply (V : Valuation τ sig (Elt Ideal)) (a : Fin 4) (T : Fin 2048) (e : Fin 512) :
    out_main_v73 V (ix3 a T e)
      = Ideal.logistic ((V (Proc.devRef .tc main_arg0) : FVec Ideal ⟨2, ![8192, 5760]⟩ .f32) (ix2 ⟨a.val * 2048 + T.val, by omega⟩ ⟨1536 + e.val, by omega⟩))
        * gn (fun x => (V (Proc.devRef .tc main_v39_10) : FVec Ideal S32x4x4x64x128 .f32)
            (ix5 ⟨T.val / 64, by omega⟩ a ⟨e.val / 128, by omega⟩ ⟨T.val % 64, by omega⟩ x))
          (fun x => (V (Proc.devRef .tc main_arg3) : FVec Ideal ⟨1, ![512]⟩ .f32) (ix1 ⟨128 * (e.val / 128) + x.val, by omega⟩))
          ⟨e.val % 128, by omega⟩ := by
  unfold out_main_v73
  pointwise
  unfold gn
  have he : e = ⟨128 * (e.val / 128) + e.val % 128, by omega⟩ := Fin.ext (by simp only; omega)
  exact congrArg₂ (fun x y : EReal => x * y) rfl (congrArg₂ (fun x y : EReal => x * y) rfl
    (congrArg (fun i => (V (Proc.devRef .tc main_arg3) : FVec Ideal ⟨1, ![512]⟩ .f32) (ix1 i)) he))

/-- The reference computes the layer's output. -/
theorem ref_apply (a : Fin 4) (T : Fin 2048) (e : Fin 512) :
    out_main_v73 (STEP^[32] (entryContents preI m c)) (ix3 a T e)
      = ans (rX m c) (rI m c) (rF m c) (rW m c) a.val T.val e.val := by
  rw [out_apply, iter_main_arg0, iter_main_arg3]
  have H := inv_all m c 32 le_rfl
  have hp : (4 * a.val + e.val / 128) % 4 = e.val / 128 := by omega
  refine congrArg₂ (fun x y : EReal => x * y) (congrArg Ideal.logistic (pj_of (rX m c) (by simp only; omega) rfl)) ?_
  unfold gN
  refine congr (congr (congrArg gn (funext fun x => ?_)) (funext fun x => ?_)) rfl
  · exact H.row ⟨T.val / 64, by omega⟩ a ⟨e.val / 128, by omega⟩ _ x (by simp only; omega)
  · refine congrArg (rW m c) (congrArg ix1 (Fin.ext ?_))
    show 128 * (e.val / 128) + x.val = (128 * ((4 * a.val + e.val / 128) % 4) + x.val) % 512
    omega

end
end MLstm
-- ==== Proof.Down.lean ====
module
public import proofs.«01_k».proof.Proof.Grid
public import proofs.«01_k».proof.Proof.Gen.Kernel2Ideal.Value
public import proofs.«01_k».proof.Proof.Gen.Reference2Ideal.Run

/-! The second product of the feed-forward part: a grid point's block of the kernel's result is the block of the one
    product of the whole arrays, added to the residual. -/

@[expose] public section

set_option maxRecDepth 16384

open Idealize.ShloMosaic Idealize.ShloMosaic.TcCoe Idealize.SL.Sem

namespace Blocked.Down

noncomputable section

/-- The call's result, index by index: the residual plus the product. -/
def down (a : FVec Ideal ⟨2, ![8192, 5632]⟩ .bf16) (w : FVec Ideal ⟨3, ![4, 5632, 2048]⟩ .f32) (x : FVec Ideal ⟨2, ![8192, 2048]⟩ .f32)
    (r : Fin 8192) (l : Fin 2048) : EReal := x (ix2 r l) + ∑ f : Fin 5632, a (ix2 r f) * w (ix3 0 f l)

section
open Cert.Kernel2Ideal Cert.Kernel2Ideal.Gen

variable (m : (ℓ : Loc nD τ sig) → Buf (Elt Ideal) ℓ)

theorem places : ∀ t : Fin cfg0.N, win0_0.index t = ![t.val / 4, 0] ∧ win0_1.index t = ![0, 0, t.val % 4]
    ∧ win0_2.index t = ![t.val / 4, t.val % 4] ∧ win0_3.index t = ![t.val / 4, t.val % 4] :=
  (by decide +kernel : ∀ t : Fin grid0.N, _)

theorem flushes : ∀ t : Fin cfg0.N, (cfg0.win 3).flush t = true := (by decide +kernel : ∀ t : Fin grid0.N, _)

theorem lt32 (t : Fin cfg0.N) : t.val < 32 := t.isLt

/-- The body's result from its three blocks. -/
theorem body (x0 : Vec Ideal S1024x5632 .bf16) (x1 : Vec Ideal S1x5632x512 .bf16) (x2 : Vec Ideal S1024x512 .f32) (r : Fin 1024) (l : Fin 512) :
    out0_3 x0 x1 x2 (ix2 r l) = x2 (ix2 r l) + ∑ f : Fin 5632, x0 (ix2 r f) * x1 (ix3 0 f l) := by
  unfold out0_3
  rw [View.canon_cons_unit_lit, View.ld_unit_lit, View.ld_unit_lit, View.ld_unit_lit]
  · unfold k0_pay1
    pointwise
  all_goals exact fun a => by fin_cases a <;> rfl

theorem block0 (c : Dev nD) (t : Fin cfg0.N) (r : Fin 1024) (f : Fin 5632) :
    iblk m c 0 t (ix2 r f) = m ((c : Thread nD τ).loc main_arg0) (ix2 (Fin.ofNat 8192 (t.val / 4 * 1024 + r.val)) f) := by
  have := lt32 t
  rw [← V_main_arg0 m c]
  refine congrArg (V m c main_arg0) (at2 _ ?_ ?_)
  · show win0_0.index t (0 : Fin 2) * 1024 + 1 * r.val = _
    rw [congrFun (places t).1 0, Fin.val_ofNat]
    simp
    omega
  · show win0_0.index t (1 : Fin 2) * 5632 + 1 * f.val = _
    rw [congrFun (places t).1 1]
    simp

theorem weights (c : Dev nD) (i : S4x5632x2048.Idx) : V m c main_v0 i = m ((c : Thread nD τ).loc main_arg1) i := by
  entry_read
  rfl

theorem block1 (c : Dev nD) (t : Fin cfg0.N) (f : Fin 5632) (l : Fin 512) :
    iblk m c 1 t (ix3 0 f l) = m ((c : Thread nD τ).loc main_arg1) (ix3 0 f (Fin.ofNat 2048 (t.val % 4 * 512 + l.val))) := by
  have := lt32 t
  rw [← weights m c]
  refine congrArg (V m c main_v0) (at3 _ ?_ ?_ ?_)
  · show win0_1.index t (0 : Fin 3) * 1 + 1 * 0 = _
    rw [congrFun (places t).2.1 0]
    simp
  · show win0_1.index t (1 : Fin 3) * 5632 + 1 * f.val = _
    rw [congrFun (places t).2.1 1]
    simp
  · show win0_1.index t (2 : Fin 3) * 512 + 1 * l.val = _
    rw [congrFun (places t).2.1 2, Fin.val_ofNat]
    simp
    omega

theorem block2 (c : Dev nD) (t : Fin cfg0.N) (r : Fin 1024) (l : Fin 512) :
    iblk m c 2 t (ix2 r l) = m ((c : Thread nD τ).loc main_arg2)
      (ix2 (Fin.ofNat 8192 (t.val / 4 * 1024 + r.val)) (Fin.ofNat 2048 (t.val % 4 * 512 + l.val))) := by
  have := lt32 t
  rw [← V_main_arg2 m c]
  refine congrArg (V m c main_arg2) (at2 _ ?_ ?_)
  · show win0_2.index t (0 : Fin 2) * 1024 + 1 * r.val = _
    rw [congrFun (places t).2.2.1 0, Fin.val_ofNat]
    simp
    omega
  · show win0_2.index t (1 : Fin 2) * 512 + 1 * l.val = _
    rw [congrFun (places t).2.2.1 1, Fin.val_ofNat]
    simp
    omega

/-- The kernel's result at an index of the block of grid point `t`. -/
theorem kernel_block (c : Dev nD) (t : Fin cfg0.N) (r : Fin 1024) (l : Fin 512) :
    (dats m 0 c).arrAt 3 cfg0.N (ix2 (Fin.ofNat 8192 (t.val / 4 * 1024 + r.val)) (Fin.ofNat 2048 (t.val % 4 * 512 + l.val)))
      = down (m ((c : Thread nD τ).loc main_arg0)) (m ((c : Thread nD τ).loc main_arg1)) (m ((c : Thread nD τ).loc main_arg2))
          (Fin.ofNat 8192 (t.val / 4 * 1024 + r.val)) (Fin.ofNat 2048 (t.val % 4 * 512 + l.val)) := by
  have := lt32 t
  have h := congrFun (Cert.Kernel2Ideal.Value.blocks3 m c t (flushes t)) (ix2 r l)
  rw [Cert.Kernel2Ideal.Value.flushed3] at h
  refine Eq.trans (congrArg ((dats m 0 c).arrAt 3 cfg0.N) (at2 (((cfg0.win 3).blk t).view.emb (ix2 r l)) ?_ ?_).symm) (h.trans ?_)
  · show win0_3.index t (0 : Fin 2) * 1024 + 1 * r.val = _
    rw [congrFun (places t).2.2.2 0, Fin.val_ofNat]
    simp
    omega
  · show win0_3.index t (1 : Fin 2) * 512 + 1 * l.val = _
    rw [congrFun (places t).2.2.2 1, Fin.val_ofNat]
    simp
    omega
  · refine (body _ _ _ r l).trans ?_
    rw [block2]
    refine congrArg (fun e : EReal => (_ : EReal) + e) (Finset.sum_congr rfl fun f _ => ?_)
    rw [block0, block1]

/-- The kernel's result at an index. -/
theorem kernel_apply (c : Dev nD) (r : Fin 8192) (l : Fin 2048) :
    (dats m 0 c).arrAt 3 cfg0.N (ix2 r l)
      = down (m ((c : Thread nD τ).loc main_arg0)) (m ((c : Thread nD τ).loc main_arg1)) (m ((c : Thread nD τ).loc main_arg2)) r l := by
  have hr := r.isLt
  have hl := l.isLt
  have h := kernel_block m c (⟨r.val / 1024 * 4 + l.val / 512, show _ < 32 by omega⟩ : Fin cfg0.N) ⟨r.val % 1024, by omega⟩ ⟨l.val % 512, by omega⟩
  rwa [show Fin.ofNat 8192 ((r.val / 1024 * 4 + l.val / 512) / 4 * 1024 + r.val % 1024) = r from Fin.ext (by rw [Fin.val_ofNat]; omega),
    show Fin.ofNat 2048 ((r.val / 1024 * 4 + l.val / 512) % 4 * 512 + l.val % 512) = l from Fin.ext (by rw [Fin.val_ofNat]; omega)] at h

end

/-- The reference's result at an index. -/
theorem ref_apply (a : FVec Ideal Cert.Reference2Ideal.S8192x5632 .bf16) (w : FVec Ideal Cert.Reference2Ideal.S4x5632x2048 .f32)
    (x : FVec Ideal Cert.Reference2Ideal.S8192x2048 .f32) (r : Fin 8192) (l : Fin 2048) :
    addf x (Host.dotGeneral Cert.Reference2Ideal.dot_S8192x5632_S5632x2048_S8192x2048_1_0_0_1_n_n none
      (extf .f32 a Cert.Reference2Ideal.Gen.bitsLt_bf16_f32) (shapeCast _ (extractStridedSlice Cert.Reference2Ideal.S1x5632x2048 ![0, 0, 0] w
        Cert.Reference2Ideal.Gen.slices_S4x5632x2048_S1x5632x2048_0_0_0) Cert.Reference2Ideal.Gen.shapeCasts_S1x5632x2048_S5632x2048)) (ix2 r l)
      = down a w x r l := by
  pointwise
  rfl

end

end Blocked.Down
-- ==== Proof.OutProj.lean ====
module
public import proofs.«01_k».proof.Proof.Grid
public import proofs.«01_k».proof.Proof.Gen.Kernel3Ideal.Value
public import proofs.«01_k».proof.Proof.Gen.Reference3Ideal.Run

/-! The output projection: the three parts of the mixed rows against the three ranges of the weight's rows are the one
    product of the rows laid side by side. -/

@[expose] public section

set_option maxRecDepth 16384

open Idealize.ShloMosaic Idealize.ShloMosaic.TcCoe Idealize.SL.Sem

namespace Blocked.OutProj

noncomputable section

/-- The call's result, index by index: the residual plus the three products. -/
def out (a b : FVec Ideal ⟨2, ![8192, 512]⟩ .bf16) (d : FVec Ideal ⟨2, ![8192, 1024]⟩ .bf16) (w : FVec Ideal ⟨3, ![4, 2048, 2048]⟩ .f32)
    (x : FVec Ideal ⟨2, ![8192, 2048]⟩ .f32) (r : Fin 8192) (l : Fin 2048) : EReal :=
  x (ix2 r l) + ((∑ f : Fin 512, a (ix2 r f) * w (ix3 0 ⟨f.val, by omega⟩ l) + ∑ f : Fin 512, b (ix2 r f) * w (ix3 0 ⟨512 + f.val, by omega⟩ l))
    + ∑ f : Fin 1024, d (ix2 r f) * w (ix3 0 ⟨1024 + f.val, by omega⟩ l))

/-- A sum over the rows of the weight, range by range. -/
theorem sum_parts (g : Fin 2048 → EReal) : ∑ f, g f = (∑ f : Fin 512, g ⟨f.val, by omega⟩ + ∑ f : Fin 512, g ⟨512 + f.val, by omega⟩)
    + ∑ f : Fin 1024, g ⟨1024 + f.val, by omega⟩ :=
  (Fin.sum_univ_add (a := 1024) (b := 1024) g).trans
    (congrArg (· + _) (Fin.sum_univ_add (a := 512) (b := 512) fun f => g ⟨f.val, by omega⟩))

section
open Cert.Kernel3Ideal Cert.Kernel3Ideal.Gen

variable (m : (ℓ : Loc nD τ sig) → Buf (Elt Ideal) ℓ)

theorem places : ∀ t : Fin cfg0.N, win0_0.index t = ![t.val / 4, 0] ∧ win0_1.index t = ![t.val / 4, 0] ∧ win0_2.index t = ![t.val / 4, 0]
    ∧ win0_3.index t = ![0, 0, t.val % 4] ∧ win0_4.index t = ![0, 1, t.val % 4] ∧ win0_5.index t = ![0, 1, t.val % 4]
    ∧ win0_6.index t = ![t.val / 4, t.val % 4] ∧ win0_7.index t = ![t.val / 4, t.val % 4] :=
  (by decide +kernel : ∀ t : Fin grid0.N, _)

theorem flushes : ∀ t : Fin cfg0.N, (cfg0.win 7).flush t = true := (by decide +kernel : ∀ t : Fin grid0.N, _)

theorem lt16 (t : Fin cfg0.N) : t.val < 16 := t.isLt

/-- The body's result from its blocks. -/
theorem body (x0 x1 : Vec Ideal S2048x512 .bf16) (x2 : Vec Ideal S2048x1024 .bf16) (x3 x4 : Vec Ideal S1x512x512 .bf16)
    (x5 : Vec Ideal S1x1024x512 .bf16) (x6 : Vec Ideal S2048x512 .f32) (r : Fin 2048) (l : Fin 512) :
    out0_7 x0 x1 x2 x3 x4 x5 x6 (ix2 r l) = x6 (ix2 r l)
      + ((∑ f : Fin 512, x0 (ix2 r f) * x3 (ix3 0 f l) + ∑ f : Fin 512, x1 (ix2 r f) * x4 (ix3 0 f l))
        + ∑ f : Fin 1024, x2 (ix2 r f) * x5 (ix3 0 f l)) := by
  unfold out0_7
  rw [View.canon_cons_unit_lit, View.ld_unit_lit, View.ld_unit_lit, View.ld_unit_lit, View.ld_unit_lit, View.ld_unit_lit, View.ld_unit_lit,
    View.ld_unit_lit]
  · unfold k0_pay1
    pointwise
  all_goals exact fun a => by fin_cases a <;> rfl

/-- The row of the arrays that row `r` of grid point `t`'s blocks is, and the column that column `l` is. -/
def row (t : ℕ) (r : Fin 2048) : Fin 8192 := Fin.ofNat 8192 (t / 4 * 2048 + r.val)
def col (t : ℕ) (l : Fin 512) : Fin 2048 := Fin.ofNat 2048 (t % 4 * 512 + l.val)

theorem row_val (t : Fin cfg0.N) (r : Fin 2048) : (row t.val r).val = t.val / 4 * 2048 + r.val := by
  have := lt16 t
  unfold row
  rw [Fin.val_ofNat]
  omega

theorem col_val (t : Fin cfg0.N) (l : Fin 512) : (col t.val l).val = t.val % 4 * 512 + l.val := by
  unfold col
  rw [Fin.val_ofNat]
  omega

theorem block0 (c : Dev nD) (t : Fin cfg0.N) (r : Fin 2048) (f : Fin 512) :
    iblk m c 0 t (ix2 r f) = m ((c : Thread nD τ).loc main_arg0) (ix2 (row t.val r) f) := by
  rw [← V_main_arg0 m c]
  refine congrArg (V m c main_arg0) (at2 _ ?_ ?_)
  · show win0_0.index t (0 : Fin 2) * 2048 + 1 * r.val = _
    rw [congrFun (places t).1 0, row_val]
    simp
  · show win0_0.index t (1 : Fin 2) * 512 + 1 * f.val = _
    rw [congrFun (places t).1 1]
    simp

theorem block1 (c : Dev nD) (t : Fin cfg0.N) (r : Fin 2048) (f : Fin 512) :
    iblk m c 1 t (ix2 r f) = m ((c : Thread nD τ).loc main_arg1) (ix2 (row t.val r) f) := by
  rw [← V_main_arg1 m c]
  refine congrArg (V m c main_arg1) (at2 _ ?_ ?_)
  · show win0_1.index t (0 : Fin 2) * 2048 + 1 * r.val = _
    rw [congrFun (places t).2.1 0, row_val]
    simp
  · show win0_1.index t (1 : Fin 2) * 512 + 1 * f.val = _
    rw [congrFun (places t).2.1 1]
    simp

theorem block2 (c : Dev nD) (t : Fin cfg0.N) (r : Fin 2048) (f : Fin 1024) :
    iblk m c 2 t (ix2 r f) = m ((c : Thread nD τ).loc main_arg2) (ix2 (row t.val r) f) := by
  rw [← V_main_arg2 m c]
  refine congrArg (V m c main_arg2) (at2 _ ?_ ?_)
  · show win0_2.index t (0 : Fin 2) * 2048 + 1 * r.val = _
    rw [congrFun (places t).2.2.1 0, row_val]
    simp
  · show win0_2.index t (1 : Fin 2) * 1024 + 1 * f.val = _
    rw [congrFun (places t).2.2.1 1]
    simp

theorem weights (c : Dev nD) (i : S4x2048x2048.Idx) : V m c main_v0 i = m ((c : Thread nD τ).loc main_arg3) i := by
  entry_read
  rfl

theorem block3 (c : Dev nD) (t : Fin cfg0.N) (f l : Fin 512) :
    iblk m c 3 t (ix3 0 f l) = m ((c : Thread nD τ).loc main_arg3) (ix3 0 ⟨f.val, by omega⟩ (col t.val l)) := by
  rw [← weights m c]
  refine congrArg (V m c main_v0) (at3 _ ?_ ?_ ?_)
  · show win0_3.index t (0 : Fin 3) * 1 + 1 * 0 = _
    rw [congrFun (places t).2.2.2.1 0]
    simp
  · show win0_3.index t (1 : Fin 3) * 512 + 1 * f.val = _
    rw [congrFun (places t).2.2.2.1 1]
    simp
  · show win0_3.index t (2 : Fin 3) * 512 + 1 * l.val = _
    rw [congrFun (places t).2.2.2.1 2, col_val]
    simp

theorem block4 (c : Dev nD) (t : Fin cfg0.N) (f l : Fin 512) :
    iblk m c 4 t (ix3 0 f l) = m ((c : Thread nD τ).loc main_arg3) (ix3 0 ⟨512 + f.val, by omega⟩ (col t.val l)) := by
  rw [← weights m c]
  refine congrArg (V m c main_v0) (at3 _ ?_ ?_ ?_)
  · show win0_4.index t (0 : Fin 3) * 1 + 1 * 0 = _
    rw [congrFun (places t).2.2.2.2.1 0]
    simp
  · show win0_4.index t (1 : Fin 3) * 512 + 1 * f.val = _
    rw [congrFun (places t).2.2.2.2.1 1]
    simp
  · show win0_4.index t (2 : Fin 3) * 512 + 1 * l.val = _
    rw [congrFun (places t).2.2.2.2.1 2, col_val]
    simp

theorem block5 (c : Dev nD) (t : Fin cfg0.N) (f : Fin 1024) (l : Fin 512) :
    iblk m c 5 t (ix3 0 f l) = m ((c : Thread nD τ).loc main_arg3) (ix3 0 ⟨1024 + f.val, by omega⟩ (col t.val l)) := by
  rw [← weights m c]
  refine congrArg (V m c main_v0) (at3 _ ?_ ?_ ?_)
  · show win0_5.index t (0 : Fin 3) * 1 + 1 * 0 = _
    rw [congrFun (places t).2.2.2.2.2.1 0]
    simp
  · show win0_5.index t (1 : Fin 3) * 1024 + 1 * f.val = _
    rw [congrFun (places t).2.2.2.2.2.1 1]
    simp
  · show win0_5.index t (2 : Fin 3) * 512 + 1 * l.val = _
    rw [congrFun (places t).2.2.2.2.2.1 2, col_val]
    simp

theorem block6 (c : Dev nD) (t : Fin cfg0.N) (r : Fin 2048) (l : Fin 512) :
    iblk m c 6 t (ix2 r l) = m ((c : Thread nD τ).loc main_arg4) (ix2 (row t.val r) (col t.val l)) := by
  rw [← V_main_arg4 m c]
  refine congrArg (V m c main_arg4) (at2 _ ?_ ?_)
  · show win0_6.index t (0 : Fin 2) * 2048 + 1 * r.val = _
    rw [congrFun (places t).2.2.2.2.2.2.1 0, row_val]
    simp
  · show win0_6.index t (1 : Fin 2) * 512 + 1 * l.val = _
    rw [congrFun (places t).2.2.2.2.2.2.1 1, col_val]
    simp

/-- The kernel's result at an index of the block of grid point `t`. -/
theorem kernel_block (c : Dev nD) (t : Fin cfg0.N) (r : Fin 2048) (l : Fin 512) :
    (dats m 0 c).arrAt 7 cfg0.N (ix2 (row t.val r) (col t.val l))
      = out (m ((c : Thread nD τ).loc main_arg0)) (m ((c : Thread nD τ).loc main_arg1)) (m ((c : Thread nD τ).loc main_arg2))
          (m ((c : Thread nD τ).loc main_arg3)) (m ((c : Thread nD τ).loc main_arg4)) (row t.val r) (col t.val l) := by
  have h := congrFun (Cert.Kernel3Ideal.Value.blocks7 m c t (flushes t)) (ix2 r l)
  rw [Cert.Kernel3Ideal.Value.flushed7] at h
  refine Eq.trans (congrArg ((dats m 0 c).arrAt 7 cfg0.N) (at2 (((cfg0.win 7).blk t).view.emb (ix2 r l)) ?_ ?_).symm) (h.trans ?_)
  · show win0_7.index t (0 : Fin 2) * 2048 + 1 * r.val = _
    rw [congrFun (places t).2.2.2.2.2.2.2 0, row_val]
    simp
  · show win0_7.index t (1 : Fin 2) * 512 + 1 * l.val = _
    rw [congrFun (places t).2.2.2.2.2.2.2 1, col_val]
    simp
  · refine (body _ _ _ _ _ _ _ r l).trans ?_
    rw [block6]
    refine congrArg (fun e : EReal => (_ : EReal) + e) (congrArg₂ (fun e e' : EReal => e + e') (congrArg₂ (fun e e' : EReal => e + e')
      (Finset.sum_congr rfl fun f _ => ?_) (Finset.sum_congr rfl fun f _ => ?_)) (Finset.sum_congr rfl fun f _ => ?_))
    · rw [block0, block3]
    · rw [block1, block4]
    · rw [block2, block5]

/-- The kernel's result at an index. -/
theorem kernel_apply (c : Dev nD) (r : Fin 8192) (l : Fin 2048) :
    (dats m 0 c).arrAt 7 cfg0.N (ix2 r l)
      = out (m ((c : Thread nD τ).loc main_arg0)) (m ((c : Thread nD τ).loc main_arg1)) (m ((c : Thread nD τ).loc main_arg2))
          (m ((c : Thread nD τ).loc main_arg3)) (m ((c : Thread nD τ).loc main_arg4)) r l := by
  have hr := r.isLt
  have hl := l.isLt
  have ht : r.val / 2048 * 4 + l.val / 512 < 16 := by omega
  have h := kernel_block m c (⟨r.val / 2048 * 4 + l.val / 512, ht⟩ : Fin cfg0.N) ⟨r.val % 2048, by omega⟩ ⟨l.val % 512, by omega⟩
  rwa [show row _ _ = r from Fin.ext ((row_val _ _).trans (by dsimp only; omega)),
    show col _ _ = l from Fin.ext ((col_val _ _).trans (by dsimp only; omega))] at h

end

section
open Cert.Reference3Ideal Cert.Reference3Ideal.Gen

/-- The three parts laid side by side, read in each part's columns. -/
theorem beside (a b : FVec Ideal S8192x512 .f32) (d : FVec Ideal S8192x1024 .f32) (r : Fin 8192) :
    (∀ f : Fin 512, concatenate S8192x2048 1 [⟨S8192x512, a⟩, ⟨S8192x512, b⟩, ⟨S8192x1024, d⟩]
        concatenates_S8192x512_S8192x512_S8192x1024_S8192x2048_d1 (ix2 r ⟨f.val, by omega⟩) = a (ix2 r f))
    ∧ (∀ f : Fin 512, concatenate S8192x2048 1 [⟨S8192x512, a⟩, ⟨S8192x512, b⟩, ⟨S8192x1024, d⟩]
        concatenates_S8192x512_S8192x512_S8192x1024_S8192x2048_d1 (ix2 r ⟨512 + f.val, by omega⟩) = b (ix2 r f))
    ∧ (∀ f : Fin 1024, concatenate S8192x2048 1 [⟨S8192x512, a⟩, ⟨S8192x512, b⟩, ⟨S8192x1024, d⟩]
        concatenates_S8192x512_S8192x512_S8192x1024_S8192x2048_d1 (ix2 r ⟨1024 + f.val, by omega⟩) = d (ix2 r f)) := by
  refine ⟨fun f => ?_, fun f => ?_, fun f => ?_⟩
  · pointwise
  · pointwise
  · pointwise
    rw [dif_neg (by omega), dif_neg (by omega)]
    exact congrArg d (at2 _ rfl (show 1024 + f.val - 512 - 512 = f.val by omega))

/-- The reference's result at an index. -/
theorem ref_apply (a b : FVec Ideal S8192x512 .bf16) (d : FVec Ideal S8192x1024 .bf16) (w : FVec Ideal S4x2048x2048 .f32)
    (x : FVec Ideal S8192x2048 .f32) (r : Fin 8192) (l : Fin 2048) :
    addf x (Host.dotGeneral dot_S8192x2048_S2048x2048_S8192x2048_1_0_0_1_n_n none
      (concatenate S8192x2048 1 [⟨S8192x512, extf .f32 a bitsLt_bf16_f32⟩, ⟨S8192x512, extf .f32 b bitsLt_bf16_f32⟩,
        ⟨S8192x1024, extf .f32 d bitsLt_bf16_f32⟩] concatenates_S8192x512_S8192x512_S8192x1024_S8192x2048_d1)
      (shapeCast _ (extractStridedSlice S1x2048x2048 ![0, 0, 0] w slices_S4x2048x2048_S1x2048x2048_0_0_0) shapeCasts_S1x2048x2048_S2048x2048))
        (ix2 r l)
      = out a b d w x r l := by
  generalize hcat : concatenate S8192x2048 1 _ _ = cat
  obtain ⟨h0, h1, h2⟩ := beside (extf .f32 a bitsLt_bf16_f32) (extf .f32 b bitsLt_bf16_f32) (extf .f32 d bitsLt_bf16_f32) r
  rw [hcat] at h0 h1 h2
  have e : addf x (Host.dotGeneral dot_S8192x2048_S2048x2048_S8192x2048_1_0_0_1_n_n none cat
      (shapeCast _ (extractStridedSlice S1x2048x2048 ![0, 0, 0] w slices_S4x2048x2048_S1x2048x2048_0_0_0) shapeCasts_S1x2048x2048_S2048x2048))
        (ix2 r l) = x (ix2 r l) + ∑ f : Fin 2048, cat (ix2 r f) * w (ix3 0 f l) := by
    pointwise
  rw [e, sum_parts]
  simp only [h0, h1, h2]
  rfl

end

end

end Blocked.OutProj
-- ==== Proof.InProj.lean ====
module
public import proofs.«01_k».proof.Proof.Grid
public import proofs.«01_k».proof.Proof.Gen.Kernel4Ideal.Value
public import proofs.«01_k».proof.Proof.Gen.Reference4Ideal.Run

/-! The input projection: the normalised rows that the first column block leaves behind are those that every later column
    block multiplies. -/

@[expose] public section

set_option maxRecDepth 16384

open Idealize.ShloMosaic Idealize.ShloMosaic.TcCoe Idealize.SL.Sem

namespace Blocked.InProj

noncomputable section

/-- The call's result, index by index: a normalised row against a row of the weights. -/
def prod (x : FVec Ideal ⟨2, ![8192, 2048]⟩ .f32) (n : FVec Ideal ⟨1, ![2048]⟩ .f32) (w : FVec Ideal ⟨3, ![4, 5760, 2048]⟩ .bf16)
    (r : Fin 8192) (l : Fin 5760) : EReal :=
  ∑ d : Fin 2048, nrm (fun k => x (ix2 r k)) (fun k => n (ix1 k)) d * w (ix3 0 l d)

section
open Cert.Kernel4Ideal Cert.Kernel4Ideal.Gen

/-- The normalised block. -/
theorem rows_apply (x : Vec Ideal S1024x2048 .f32) (w : Vec Ideal S1x2048 .f32) (r : Fin 1024) (d : Fin 2048) :
    k0_pay1 x w (ix2 r d) = nrm (fun k => x (ix2 r k)) (fun k => w (ix2 0 k)) d := by
  unfold k0_pay1
  pointwise
  rfl

/-- A block's product. -/
theorem prod_apply (h : Vec Ideal S1024x2048 .bf16) (w : Vec Ideal S1x1152x2048 .bf16) (r : Fin 1024) (l : Fin 1152) :
    k0_pay2 h w (ix2 r l) = ∑ d : Fin 2048, h (ix2 r d) * w (ix3 0 l d) := by
  unfold k0_pay2
  pointwise

/-- The scratch after the first column block: the normalised block. -/
theorem left_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1152x2048 .bf16) (harg4 : arg4.IsWhole) (arg5 : Memref sig .tc .vmem S1024x1152 .f32) (harg5 : arg5.IsWhole)
    (arg6 : Memref sig .tc .vmem S1024x2048 .bf16) (harg6 : arg6.IsWhole) (hc0 : cond0_0 i)
    (x0 : Vec Ideal S1024x2048 .f32) (x1 : Vec Ideal S1x2048 .f32) (x2 : Vec Ideal S1x1152x2048 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  refine (View.canon_unit_zero (Val := Elt Ideal) (S := S1024x2048) (e := .bf16) (by decide) _ _).trans ?_
  exact congrArg₂ k0_pay1 (load_whole _ harg2 (by decide) _ _) (load_whole _ harg3 (by decide) _ _)

/-- The result's block, first column block. -/
theorem out_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1152x2048 .bf16) (harg4 : arg4.IsWhole) (arg5 : Memref sig .tc .vmem S1024x1152 .f32) (harg5 : arg5.IsWhole)
    (arg6 : Memref sig .tc .vmem S1024x2048 .bf16) (harg6 : arg6.IsWhole) (hc0 : cond0_0 i)
    (x0 : Vec Ideal S1024x2048 .f32) (x1 : Vec Ideal S1x2048 .f32) (x2 : Vec Ideal S1x1152x2048 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  refine (View.canon_unit_zero (Val := Elt Ideal) (S := S1024x1152) (e := .f32) (by decide) _ _).trans ?_
  refine congrArg₂ k0_pay2 ((View.readCov_unit_zero (Val := Elt Ideal) (S := S1024x2048) (e := .bf16) _ (by decide) _ _).trans ?_)
    (load_whole (S := S1x1152x2048) _ harg4 (by decide) _ _)
  exact congrArg₂ k0_pay1 (load_whole _ harg2 (by decide) _ _) (load_whole _ harg3 (by decide) _ _)

/-- The result's block, a later column block. -/
theorem out_B (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1152x2048 .bf16) (harg4 : arg4.IsWhole) (arg5 : Memref sig .tc .vmem S1024x1152 .f32) (harg5 : arg5.IsWhole)
    (arg6 : Memref sig .tc .vmem S1024x2048 .bf16) (harg6 : arg6.IsWhole) (hc0 : ¬cond0_0 i)
    (x0 : Vec Ideal S1024x2048 .f32) (x1 : Vec Ideal S1x2048 .f32) (x2 : Vec Ideal S1x1152x2048 .bf16) (xs0 : Vec Ideal S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  refine (View.canon_unit_zero (Val := Elt Ideal) (S := S1024x1152) (e := .f32) (by decide) _ _).trans ?_
  exact congrArg₂ k0_pay2 (load_whole (S := S1024x2048) _ harg6 (by decide) _ _) (load_whole (S := S1x1152x2048) _ harg4 (by decide) _ _)

variable (m : (ℓ : Loc nD τ sig) → Buf (Elt Ideal) ℓ)

theorem places : ∀ t : Fin cfg0.N, win0_0.index t = ![t.val / 5, 0] ∧ win0_1.index t = ![0, 0] ∧ win0_2.index t = ![0, t.val % 5, 0]
    ∧ win0_3.index t = ![t.val / 5, t.val % 5] := (by decide +kernel : ∀ t : Fin grid0.N, _)

theorem flushes : ∀ t : Fin cfg0.N, (cfg0.win 3).flush t = true := (by decide +kernel : ∀ t : Fin grid0.N, _)

theorem lt40 (t : Fin cfg0.N) : t.val < 40 := t.isLt

/-- The row of the arrays that row `r` of grid point `t`'s blocks is, and the column that column `l` is. -/
def row (t : ℕ) (r : Fin 1024) : Fin 8192 := Fin.ofNat 8192 (t / 5 * 1024 + r.val)
def col (t : ℕ) (l : Fin 1152) : Fin 5760 := Fin.ofNat 5760 (t % 5 * 1152 + l.val)

theorem row_val (t : Fin cfg0.N) (r : Fin 1024) : (row t.val r).val = t.val / 5 * 1024 + r.val := by
  have := lt40 t
  unfold row
  rw [Fin.val_ofNat]
  omega

theorem col_val (t : Fin cfg0.N) (l : Fin 1152) : (col t.val l).val = t.val % 5 * 1152 + l.val := by
  unfold col
  rw [Fin.val_ofNat]
  omega

theorem block0 (c : Dev nD) (t : Fin cfg0.N) (r : Fin 1024) (d : Fin 2048) :
    iblk m c 0 t (ix2 r d) = m ((c : Thread nD τ).loc main_arg0) (ix2 (row t.val r) d) := by
  rw [← V_main_arg0 m c]
  refine congrArg (V m c main_arg0) (at2 _ ?_ ?_)
  · show win0_0.index t (0 : Fin 2) * 1024 + 1 * r.val = _
    rw [congrFun (places t).1 0, row_val]
    simp
  · show win0_0.index t (1 : Fin 2) * 2048 + 1 * d.val = _
    rw [congrFun (places t).1 1]
    simp

theorem scales (c : Dev nD) (d : Fin 2048) : V m c main_v0 (ix2 0 d) = m ((c : Thread nD τ).loc main_arg1) (ix1 d) := by
  entry_read
  pointwise

theorem block1 (c : Dev nD) (t : Fin cfg0.N) (d : Fin 2048) :
    iblk m c 1 t (ix2 0 d) = m ((c : Thread nD τ).loc main_arg1) (ix1 d) := by
  rw [← scales m c]
  refine congrArg (V m c main_v0) (at2 _ ?_ ?_)
  · show win0_1.index t (0 : Fin 2) * 1 + 1 * 0 = _
    rw [congrFun (places t).2.1 0]
    simp
  · show win0_1.index t (1 : Fin 2) * 2048 + 1 * d.val = _
    rw [congrFun (places t).2.1 1]
    simp

theorem block2 (c : Dev nD) (t : Fin cfg0.N) (l : Fin 1152) (d : Fin 2048) :
    iblk m c 2 t (ix3 0 l d) = m ((c : Thread nD τ).loc main_arg2) (ix3 0 (col t.val l) d) := by
  rw [← V_main_arg2 m c]
  refine congrArg (V m c main_arg2) (at3 _ ?_ ?_ ?_)
  · show win0_2.index t (0 : Fin 3) * 1 + 1 * 0 = _
    rw [congrFun (places t).2.2.1 0]
    simp
  · show win0_2.index t (1 : Fin 3) * 1152 + 1 * l.val = _
    rw [congrFun (places t).2.2.1 1, col_val]
    simp
  · show win0_2.index t (2 : Fin 3) * 2048 + 1 * d.val = _
    rw [congrFun (places t).2.2.1 2]
    simp

/-- The normalised rows of grid point `t`'s block. -/
def normed (c : Dev nD) (t : ℕ) (r : Fin 1024) (d : Fin 2048) : EReal :=
  nrm (fun k => m ((c : Thread nD τ).loc main_arg0) (ix2 (row t r) k)) (fun k => m ((c : Thread nD τ).loc main_arg1) (ix1 k)) d

theorem normed_step (c : Dev nD) (t : Fin cfg0.N) (r : Fin 1024) (d : Fin 2048) :
    k0_pay1 (iblk m c 0 t) (iblk m c 1 t) (ix2 r d) = normed m c t.val r d := by
  refine (rows_apply _ _ r d).trans ?_
  unfold normed
  refine congrArg₂ (fun v w => nrm v w d) (funext fun k => ?_) (funext fun k => ?_)
  · exact block0 m c t r k
  · exact block1 m c t k

/-- What the scratch holds after each grid point. -/
theorem held (c : Dev nD) : ∀ (n : ℕ) (hn : n < cfg0.N) (r : Fin 1024) (d : Fin 2048), (outsAt0 m c n hn).2 (ix2 r d) = normed m c n r d := by
  intro n
  induction n with
  | zero =>
    intro hn r d
    rw [outsAt0_A m c ⟨0, hn⟩ rfl]
    dsimp only
    rw [left_A]
    exact normed_step m c ⟨0, hn⟩ r d
  | succ n ih =>
    intro hn r d
    by_cases h : (n + 1) % 5 = 0
    · rw [outsAt0_A m c ⟨n + 1, hn⟩ h]
      dsimp only
      rw [left_A]
      exact normed_step m c ⟨n + 1, hn⟩ r d
    · rw [outsAt0_B m c ⟨n + 1, hn⟩ h]
      dsimp only
      unfold sout0_B_0
      simp only [Nat.add_sub_cancel]
      rw [ih]
      unfold normed row
      rw [show (n + 1) / 5 = n / 5 by omega]

/-- What a grid point writes back. -/
theorem written (c : Dev nD) (t : Fin cfg0.N) (r : Fin 1024) (l : Fin 1152) :
    (outsAt0 m c t.val t.isLt).1 (ix2 r l) = ∑ d : Fin 2048, normed m c t.val r d * m ((c : Thread nD τ).loc main_arg2) (ix3 0 (col t.val l) d) := by
  by_cases h : t.val % 5 = 0
  · rw [outsAt0_A m c t h]
    dsimp only
    rw [out_A]
    refine (prod_apply _ _ r l).trans (Finset.sum_congr rfl fun d _ => ?_)
    rw [normed_step, block2]
  · rw [outsAt0_B m c t h]
    dsimp only
    rw [out_B]
    refine (prod_apply _ _ r l).trans (Finset.sum_congr rfl fun d _ => ?_)
    rw [held, block2]
    unfold normed row
    rw [show (t.val - 1) / 5 = t.val / 5 by omega]

/-- The kernel's result at an index of the block of grid point `t`. -/
theorem kernel_block (c : Dev nD) (t : Fin cfg0.N) (r : Fin 1024) (l : Fin 1152) :
    (dats m 0 c).arrAt 3 cfg0.N (ix2 (row t.val r) (col t.val l))
      = prod (m ((c : Thread nD τ).loc main_arg0)) (m ((c : Thread nD τ).loc main_arg1)) (m ((c : Thread nD τ).loc main_arg2))
          (row t.val r) (col t.val l) := by
  have h := congrFun (Cert.Kernel4Ideal.Value.blocks3 m c t (flushes t)) (ix2 r l)
  rw [Cert.Kernel4Ideal.Value.flushed3] at h
  refine Eq.trans (congrArg ((dats m 0 c).arrAt 3 cfg0.N) (at2 (((cfg0.win 3).blk t).view.emb (ix2 r l)) ?_ ?_).symm)
    (h.trans (written m c t r l))
  · show win0_3.index t (0 : Fin 2) * 1024 + 1 * r.val = _
    rw [congrFun (places t).2.2.2 0, row_val]
    simp
  · show win0_3.index t (1 : Fin 2) * 1152 + 1 * l.val = _
    rw [congrFun (places t).2.2.2 1, col_val]
    simp

/-- The kernel's result at an index. -/
theorem kernel_apply (c : Dev nD) (r : Fin 8192) (l : Fin 5760) :
    (dats m 0 c).arrAt 3 cfg0.N (ix2 r l)
      = prod (m ((c : Thread nD τ).loc main_arg0)) (m ((c : Thread nD τ).loc main_arg1)) (m ((c : Thread nD τ).loc main_arg2)) r l := by
  have hr := r.isLt
  have hl := l.isLt
  have ht : r.val / 1024 * 5 + l.val / 1152 < 40 := by omega
  have h := kernel_block m c (⟨r.val / 1024 * 5 + l.val / 1152, ht⟩ : Fin cfg0.N) ⟨r.val % 1024, by omega⟩ ⟨l.val % 1152, by omega⟩
  rwa [show row _ _ = r from Fin.ext ((row_val _ _).trans (by dsimp only; omega)),
    show col _ _ = l from Fin.ext ((col_val _ _).trans (by dsimp only; omega))] at h

end

section
open Cert.Reference4Ideal Cert.Reference4Ideal.Gen

/-- The reference's result at an index. -/
theorem ref_apply (x : FVec Ideal S8192x2048 .f32) (n : FVec Ideal S2048 .f32) (w : FVec Ideal S4x5760x2048 .bf16) (r : Fin 8192) (l : Fin 5760) :
    Host.dotGeneral dot_S8192x2048_S5760x2048_S8192x5760_1_1_0_0_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 n))) (extf .f32 (shapeCast _ (extractStridedSlice S1x5760x2048 ![0, 0, 0] w slices_S4x5760x2048_S1x5760x2048_0_0_0) shapeCasts_S1x5760x2048_S5760x2048) bitsLt_bf16_f32) (ix2 r l) = prod x n w r l := by
  pointwise
  rfl
end

end

end Blocked.InProj
-- ==== Proof.UpMath.lean ====
module
public import proofs.«01_k».proof.Proof.Grid
public import Mathlib.Analysis.SpecialFunctions.Trigonometric.DerivHyp

/-! The first feed-forward product as a function of its arguments, and the one fact about numbers it rests on: over the
    reals, half of an argument plus that half times its hyperbolic tangent is the argument times its logistic. -/

@[expose] public section

open Idealize.ShloMosaic

namespace Blocked.Up

noncomputable section

/-- The up-projection of the normalised row `r` to column `l`. -/
def up (x : FVec Ideal ⟨2, ![8192, 2048]⟩ .f32) (n : FVec Ideal ⟨1, ![2048]⟩ .f32) (w : FVec Ideal ⟨3, ![4, 2048, 11264]⟩ .f32)
    (l : Fin 11264) (r : ℕ) : EReal :=
  ∑ d : Fin 2048, nrm (fun k => x (ix2 (Fin.ofNat 8192 r) k)) (fun k => n (ix1 k)) d * w (ix3 0 d l)

/-- The row `d` above row `r` of the same sequence, nothing above its first row. -/
def past (u : ℕ → EReal) (r d : ℕ) : EReal := if d ≤ r % 2048 then u (r - d) else 0

/-- A row and the two above it, weighted. -/
def mix (w0 w1 w2 : EReal) (u : ℕ → EReal) (r : ℕ) : EReal := w2 * u r + w0 * past u r 2 + w1 * past u r 1

/-- The convolution of the projected rows, at a column and a row. -/
def conv (x : FVec Ideal ⟨2, ![8192, 2048]⟩ .f32) (n : FVec Ideal ⟨1, ![2048]⟩ .f32) (w : FVec Ideal ⟨3, ![4, 2048, 11264]⟩ .f32)
    (cw : FVec Ideal ⟨3, ![4, 3, 11264]⟩ .f32) (l : Fin 11264) (r : ℕ) : EReal :=
  mix (cw (ix3 0 0 l)) (cw (ix3 0 1 l)) (cw (ix3 0 2 l)) (up x n w l) r

/-- The call's result, index by index: the first half of the columns, gated by itself, times the second half. -/
def result (x : FVec Ideal ⟨2, ![8192, 2048]⟩ .f32) (n : FVec Ideal ⟨1, ![2048]⟩ .f32) (w : FVec Ideal ⟨3, ![4, 2048, 11264]⟩ .f32)
    (cw : FVec Ideal ⟨3, ![4, 3, 11264]⟩ .f32) (r : Fin 8192) (l : Fin 5632) : EReal :=
  conv x n w cw ⟨l.val, by omega⟩ r.val * Ideal.div 1 (1 + Ideal.exp (-conv x n w cw ⟨l.val, by omega⟩ r.val))
    * conv x n w cw ⟨5632 + l.val, by omega⟩ r.val

/-- The gate of half the activation's argument, times the value. -/
def gated (h v : EReal) : EReal := (h + h * Ideal.tanh h) * v

/-- A value that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem real_sum {n : ℕ} (f : Fin n → ℝ) : ∑ i, (f i : EReal) = ((∑ i, f i : ℝ) : EReal) := by
  have h : ∀ s : Finset (Fin n), ∑ i ∈ s, (f i : EReal) = ((∑ i ∈ s, f i : ℝ) : EReal) := by
    intro s
    induction s using Finset.cons_induction with
    | empty => simp
    | cons a s ha ih => rw [Finset.sum_cons, Finset.sum_cons, ih, EReal.coe_add]
  exact h _

theorem IsReal.sum {n : ℕ} {f : Fin n → EReal} (h : ∀ i, IsReal (f i)) : IsReal (∑ i, f i) := by
  choose g hg using h
  exact ⟨∑ i, g i, (Finset.sum_congr rfl fun i _ => hg i).trans (real_sum g)⟩

theorem isReal_zero : IsReal 0 := ⟨0, by simp⟩

theorem bits_count : Ideal.ofBits .f32 0x45000000#32 = ((2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_small : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The root of a row's mean square, offset by a positive number, is not zero. -/
theorem scale_real (g : Fin 2048 → ℝ) (e : ℝ) (he : 0 < e) :
    IsReal (Ideal.rsqrt (Ideal.div (∑ k, (g k : EReal) * (g k : EReal)) ((2048 : ℝ) : EReal) + (e : EReal))) := by
  have h : ∑ k, (g k : EReal) * (g k : EReal) = ((∑ k, g k * g k : ℝ) : EReal) :=
    (Finset.sum_congr rfl fun k _ => (EReal.coe_mul (g k) (g k)).symm).trans (real_sum fun k => g k * g k)
  have hn : (0 : ℝ) ≤ ∑ k, g k * g k := Finset.sum_nonneg fun k _ => mul_self_nonneg (g k)
  have hp : 0 < (∑ k, g k * g k) * (2048 : ℝ)⁻¹ + e := by positivity
  have hd : Ideal.div ((∑ k, g k * g k : ℝ) : EReal) ((2048 : ℝ) : EReal) = (((∑ k, g k * g k) * (2048 : ℝ)⁻¹ : ℝ) : EReal) := by
    unfold Ideal.div
    rw [if_neg (by exact_mod_cast (by norm_num : (2048 : ℝ) ≠ 0)), ← EReal.coe_inv, ← EReal.coe_mul]
  rw [h, hd, ← EReal.coe_add]
  refine ⟨(Real.sqrt ((∑ k, g k * g k) * (2048 : ℝ)⁻¹ + e))⁻¹, ?_⟩
  show (if _ < (0 : ℝ) then _ else if _ = (0 : ℝ) then _ else _) = _
  rw [if_neg (not_lt.mpr hp.le), if_neg hp.ne']

/-- A row with an infinite entry has an infinite mean square, so its scale is zero. -/
theorem scale_zero {v : Fin 2048 → EReal} (h : ∃ k, v k = ⊥ ∨ v k = ⊤) (e : ℝ) :
    Ideal.rsqrt (Ideal.div (∑ k, v k * v k) ((2048 : ℝ) : EReal) + (e : EReal)) = 0 := by
  obtain ⟨k, hk⟩ := h
  have hs : ∀ j, 0 ≤ v j * v j := fun j => by
    rcases le_total 0 (v j) with h | h
    · exact EReal.mul_nonneg h h
    · rw [← neg_mul_neg]
      exact EReal.mul_nonneg (EReal.neg_nonneg.mpr h) (EReal.neg_nonneg.mpr h)
  have hsq : v k * v k = ⊤ := by rcases hk with h | h <;> rw [h] <;> rfl
  have ht : ∑ j, v j * v j = ⊤ := top_le_iff.mp (hsq ▸ Finset.single_le_sum (fun j _ => hs j) (Finset.mem_univ k))
  have hd : Ideal.div ⊤ ((2048 : ℝ) : EReal) = ⊤ := by
    unfold Ideal.div
    rw [if_neg (by exact_mod_cast (by norm_num : (2048 : ℝ) ≠ 0)), ← EReal.coe_inv, EReal.top_mul_coe_of_pos (by norm_num)]
  rw [ht, hd, EReal.top_add_coe]
  rfl

/-- A normalised row is real whatever the row, where the weights are. -/
theorem nrm_real (v : Fin 2048 → EReal) {w : Fin 2048 → EReal} (hw : ∀ k, IsReal (w k)) (d : Fin 2048) : IsReal (nrm v w d) := by
  obtain ⟨e, he, hb⟩ := bits_small
  unfold nrm
  rw [bits_count, hb]
  by_cases h : ∃ k, v k = ⊥ ∨ v k = ⊤
  · rw [scale_zero h e, mul_zero, zero_mul]
    exact isReal_zero
  · have hv : ∀ k, IsReal (v k) := fun k =>
      ⟨(v k).toReal, (EReal.coe_toReal (fun ht => h ⟨k, .inr ht⟩) (fun hb => h ⟨k, .inl hb⟩)).symm⟩
    choose g hg using hv
    obtain rfl : v = fun k => (g k : EReal) := funext hg
    exact (IsReal.mul ⟨g d, rfl⟩ (scale_real g e he)).mul (hw d)

theorem up_real (x : FVec Ideal ⟨2, ![8192, 2048]⟩ .f32) {n : FVec Ideal ⟨1, ![2048]⟩ .f32} {w : FVec Ideal ⟨3, ![4, 2048, 11264]⟩ .f32}
    {l : Fin 11264} (hn : ∀ k, IsReal (n (ix1 k))) (hw : ∀ d, IsReal (w (ix3 0 d l))) (r : ℕ) : IsReal (up x n w l r) :=
  IsReal.sum fun d => (nrm_real _ (fun k => hn k) d).mul (hw d)

theorem past_real {u : ℕ → EReal} (hu : ∀ r, IsReal (u r)) (r d : ℕ) : IsReal (past u r d) := by
  unfold past
  split_ifs
  · exact hu _
  · exact isReal_zero

theorem half_logistic (a : ℝ) : a / 2 + a / 2 * Real.tanh (a / 2) = a * (1 + Real.exp (-a))⁻¹ := by
  rw [Real.tanh_eq_sinh_div_cosh, Real.sinh_eq, Real.cosh_eq]
  have h1 : Real.exp (-a) = Real.exp (-(a / 2)) * Real.exp (-(a / 2)) := by rw [← Real.exp_add]; ring_nf
  have h2 : Real.exp (a / 2) * Real.exp (-(a / 2)) = 1 := by rw [← Real.exp_add]; simp
  have p := Real.exp_pos (a / 2)
  have q := Real.exp_pos (-(a / 2))
  rw [h1]
  generalize Real.exp (a / 2) = s at *
  generalize Real.exp (-(a / 2)) = t at *
  have p1 : s + t ≠ 0 := by positivity
  have p2 : 1 + t * t ≠ 0 := by positivity
  field_simp
  linear_combination (2 * a * t) * h2

/-- The gate by the hyperbolic tangent of half the argument is the argument times its logistic, where it is real. -/
theorem gate (a : ℝ) : ((a / 2 : ℝ) : EReal) + ((a / 2 : ℝ) : EReal) * Ideal.tanh ((a / 2 : ℝ) : EReal)
    = (a : EReal) * Ideal.div 1 (1 + Ideal.exp (-(a : EReal))) := by
  have ht : Ideal.tanh ((a / 2 : ℝ) : EReal) = ((Real.tanh (a / 2) : ℝ) : EReal) := rfl
  have he : Ideal.exp (-(a : EReal)) = ((Real.exp (-a) : ℝ) : EReal) := by rw [← EReal.coe_neg]; rfl
  have hp : (1 : ℝ) + Real.exp (-a) ≠ 0 := by positivity
  rw [ht, he, ← EReal.coe_mul, ← EReal.coe_add, half_logistic, ← EReal.coe_one, ← EReal.coe_add]
  unfold Ideal.div
  rw [if_neg (by exact_mod_cast hp), ← EReal.coe_inv, ← EReal.coe_mul, ← EReal.coe_mul, one_mul]

/-- Half the weights give half the convolution. -/
theorem mix_half {w0 w1 w2 : EReal} {u : ℕ → EReal} (h0 : IsReal w0) (h1 : IsReal w1) (h2 : IsReal w2) (hu : ∀ r, IsReal (u r)) (r : ℕ) :
    ∃ a : ℝ, mix w0 w1 w2 u r = (a : EReal) ∧ mix (((1 / 2 : ℝ) : EReal) * w0) (((1 / 2 : ℝ) : EReal) * w1) (((1 / 2 : ℝ) : EReal) * w2) u r = ((a / 2 : ℝ) : EReal) := by
  obtain ⟨a0, rfl⟩ := h0
  obtain ⟨a1, rfl⟩ := h1
  obtain ⟨a2, rfl⟩ := h2
  obtain ⟨b0, e0⟩ := hu r
  obtain ⟨b1, e1⟩ := past_real hu r 1
  obtain ⟨b2, e2⟩ := past_real hu r 2
  unfold mix
  rw [e0, e1, e2]
  refine ⟨a2 * b0 + a0 * b2 + a1 * b1, ?_, ?_⟩
  · push_cast
    rfl
  · rw [← EReal.coe_mul, ← EReal.coe_mul, ← EReal.coe_mul, ← EReal.coe_mul, ← EReal.coe_mul, ← EReal.coe_mul, ← EReal.coe_add, ← EReal.coe_add]
    congr 1
    ring

/-- The two gates are the same. -/
theorem gated_half {w0 w1 w2 : EReal} {u : ℕ → EReal} (h0 : IsReal w0) (h1 : IsReal w1) (h2 : IsReal w2) (hu : ∀ r, IsReal (u r)) (r : ℕ) (v : EReal) :
    gated (mix (Ideal.ofBits .f32 0x3F000000#32 * w0) (Ideal.ofBits .f32 0x3F000000#32 * w1) (Ideal.ofBits .f32 0x3F000000#32 * w2) u r) v
      = mix w0 w1 w2 u r * Ideal.div 1 (1 + Ideal.exp (-mix w0 w1 w2 u r)) * v := by
  obtain ⟨a, e, eh⟩ := mix_half h0 h1 h2 hu r
  unfold gated
  rw [bits_half, eh, e, gate]

end

end Blocked.Up
-- ==== Proof.UpBlock.lean ====
module
public import proofs.«01_k».proof.Proof.UpMath
public import proofs.«01_k».proof.Proof.Gen.Kernel5Ideal.Value

/-! One grid point of the first feed-forward product: the tall scratch arrays hold sixteen rows of the block before and
    the block's rows, and every strip of the result is one and the same function of them. -/

@[expose] public section

set_option maxRecDepth 16384

open Idealize.ShloMosaic Idealize.ShloMosaic.TcCoe Idealize.SL.Sem

namespace Blocked.Up

noncomputable section

open Cert.Kernel5Ideal Cert.Kernel5Ideal.Gen

/-- Row `n` of the sixteen rows `H` with the rows `M` below them. -/
def tall (H : S16x512.Idx → EReal) (M : S1024x512.Idx → EReal) (n : ℕ) (l : Fin 512) : EReal :=
  if h : n < 16 then H (ix2 ⟨n, h⟩ l) else M (ix2 (Fin.ofNat 1024 (n - 16)) l)

/-- The convolution at row `n`: that row and the two above it, weighted. -/
def tap (cw : S3x512.Idx → EReal) (u : ℕ → Fin 512 → EReal) (n : ℕ) (l : Fin 512) : EReal :=
  cw (ix2 2 l) * u n l + cw (ix2 0 l) * u (n - 2) l + cw (ix2 1 l) * u (n - 1) l

/-- The block that a grid point leaves. -/
def blockOf (cg cv : S3x512.Idx → EReal) (Hg : S16x512.Idx → EReal) (Mg : S1024x512.Idx → EReal) (Hv : S16x512.Idx → EReal)
    (Mv : S1024x512.Idx → EReal) : S1024x512.Idx → EReal :=
  fun y => gated (tap cg (tall Hg Mg) (16 + (y 0).val) (y 1)) (tap cv (tall Hv Mv) (16 + (y 0).val) (y 1))

/-- Forty rows of a tall scratch array, from row `o`. -/
def strip (H : S16x512.Idx → EReal) (M : S1024x512.Idx → EReal) (o : ℕ) : FVec Ideal S40x512 .f32 :=
  fun j => tall H M (o + (j 0).val) (j 1)

/-- The two stores into a tall scratch array reach every row. -/
theorem tall_cover (M : S1024x512.Idx → EReal) (H : S16x512.Idx → EReal) (h1) (h2) (y : S1040x512.Idx) :
    ∃ p ∈ ([⟨Rect.unit ![16, 0] ![1024, 512] h1, M⟩, ⟨Rect.unit ![0, 0] ![16, 512] h2, H⟩] : List (View.Piece (Elt Ideal) S1040x512 .f32)),
      y ∈ p.1.set := by
  have hi : (y (0 : Fin 2)).val < 1040 := (y (0 : Fin 2)).isLt
  have hk : (y (1 : Fin 2)).val < 512 := (y (1 : Fin 2)).isLt
  by_cases h : (y (0 : Fin 2)).val < 16
  · refine ⟨⟨Rect.unit ![0, 0] ![16, 512] h2, H⟩, List.mem_cons_of_mem _ (List.mem_singleton_self _), (Rect.mem_set_unit (inb := h2)).mpr fun a => ?_⟩
    fin_cases a
    · exact ⟨Nat.zero_le _, by simpa using h⟩
    · exact ⟨Nat.zero_le _, by simpa using hk⟩
  · refine ⟨⟨Rect.unit ![16, 0] ![1024, 512] h1, M⟩, List.mem_cons_self .., (Rect.mem_set_unit (inb := h1)).mpr fun a => ?_⟩
    fin_cases a
    · exact ⟨by simpa using h, by simpa using hi⟩
    · exact ⟨Nat.zero_le _, by simpa using hk⟩

/-- A load of forty rows reads them. -/
theorem strip_read (v : View sig .tc .vmem S1040x512 .f32) (M : S1024x512.Idx → EReal) (H : S16x512.Idx → EReal)
    (h1) (h2) (o : ℕ) (h3) :
    v.readCov (Val := Elt Ideal) [⟨Rect.unit ![16, 0] ![1024, 512] h1, M⟩, ⟨Rect.unit ![0, 0] ![16, 512] h2, H⟩]
      (Rect.unit ![o, 0] ![40, 512] h3).toLoadRect = strip H M o := by
  rw [View.readCov_eq_canon']
  funext j
  refine (View.canon_apply_of_pieces (Val := Elt Ideal) (S := S1040x512) (e := .f32) (fun y => tall H M (y 0).val (y 1)) _ ?_ _ ?_).trans ?_
  · simp only [List.forall_mem_cons]
    refine ⟨fun x => ?_, fun x => ?_, by simp⟩
    · show M x = tall H M (16 + 1 * (x 0).val) _
      have hx : (x 0).val < 1024 := (x 0).isLt
      unfold tall
      rw [dif_neg (by omega)]
      refine congrArg M ((at2 x ?_ ?_))
      · rw [Fin.val_ofNat]; omega
      · show _ = 0 + 1 * (x 1).val
        omega
    · show H x = tall H M (0 + 1 * (x 0).val) _
      have hx : (x 0).val < 16 := (x 0).isLt
      unfold tall
      rw [dif_pos (by omega)]
      refine congrArg H ((at2 x ?_ ?_))
      · show _ = 0 + 1 * (x 0).val
        omega
      · show _ = 0 + 1 * (x 1).val
        omega
  · exact tall_cover M H h1 h2 _
  · show tall H M (o + 1 * (j 0).val) _ = tall H M (o + (j 0).val) (j 1)
    rw [Nat.one_mul]
    refine congrArg (tall H M _) (Fin.ext ?_)
    show 0 + 1 * (j 1).val = _
    omega

/-- A strip of the result. -/
theorem strip_result (cg cv : FVec Ideal S3x512 .f32) (Hg : S16x512.Idx → EReal) (Mg : S1024x512.Idx → EReal) (Hv : S16x512.Idx → EReal)
    (Mv : S1024x512.Idx → EReal) (o p : ℕ) (hp : p = o + 8) (h) (x : S32x512.Idx) :
    k0_pay29 cg cv (strip Hg Mg p) (strip Hv Mv p) x
      = blockOf cg cv Hg Mg Hv Mv ((Rect.unit (s := S1024x512) ![o, 0] ![32, 512] h).emb x) := by
  subst hp
  have hr : ∀ H M (d : ℕ) (a : Fin 32) (l : Fin 512) (hd : (8 + a.val + 40 - d) % 40 < 40), d ≤ 2 → strip H M (o + 8) (ix2 ⟨(8 + a.val + 40 - d) % 40, hd⟩ l) = tall H M (16 + (o + 1 * a.val) - d) l := by
    intro H M d a l hd hd2
    have := a.isLt
    show tall H M (o + 8 + (8 + a.val + 40 - d) % 40) l = _
    congr 1
    omega
  have h0 : ∀ H M (a : Fin 32) (l : Fin 512) (hd : 8 + a.val < 40), strip H M (o + 8) (ix2 ⟨8 + a.val, hd⟩ l) = tall H M (16 + (o + 1 * a.val)) l := by
    intro H M a l hd
    show tall H M (o + 8 + (8 + a.val)) l = _
    congr 1
    omega
  have hy : ∀ (a : Fin 32) (l : Fin 512), (Rect.unit (s := S1024x512) ![o, 0] ![32, 512] h).emb (ix2 a l) (1 : Fin 2) = l := fun a l =>
    Fin.ext (show 0 + 1 * l.val = l.val by omega)
  obtain ⟨a, l, rfl⟩ : ∃ a l, x = ix2 a l := ⟨x 0, x 1, eq_ix2 x⟩
  unfold k0_pay29
  pointwise
  unfold blockOf gated tap
  rw [hy a l]
  simp only [hr _ _ 2 a l _ (by omega), hr _ _ 1 a l _ (by omega), h0 _ _ a l _]
  rfl

/-- The scratch after the first column block: the normalised block. -/
theorem left_A0 (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S16x2048 .bf16) (harg11 : arg11.IsWhole) (arg12 : Memref sig .tc .vmem S1040x512 .f32) (harg12 : arg12.IsWhole) (arg13 : Memref sig .tc .vmem S1040x512 .f32) (harg13 : arg13.IsWhole) (hc0 : cond0_0 i)
    (x0 : Vec Ideal S1024x2048 .f32) (x1 : Vec Ideal S16x2048 .f32) (x2 : Vec Ideal S1x2048 .f32) (x3 : Vec Ideal S1x2048x512 .bf16) (x4 : Vec Ideal S1x2048x512 .bf16) (x5 : Vec Ideal S1x3x512 .f32) (x6 : Vec Ideal S1x3x512 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay2 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  refine (View.canon_unit_zero (Val := Elt Ideal) (S := S1024x2048) (e := .bf16) (by decide) _ _).trans ?_
  exact congrArg₂ k0_pay2 (load_whole _ harg2 (by decide) _ _) (load_whole _ harg4 (by decide) _ _)

/-- The scratch after the first column block: the normalised rows above the block. -/
theorem left_A1 (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S16x2048 .bf16) (harg11 : arg11.IsWhole) (arg12 : Memref sig .tc .vmem S1040x512 .f32) (harg12 : arg12.IsWhole) (arg13 : Memref sig .tc .vmem S1040x512 .f32) (harg13 : arg13.IsWhole) (hc0 : cond0_0 i)
    (x0 : Vec Ideal S1024x2048 .f32) (x1 : Vec Ideal S16x2048 .f32) (x2 : Vec Ideal S1x2048 .f32) (x3 : Vec Ideal S1x2048x512 .bf16) (x4 : Vec Ideal S1x2048x512 .bf16) (x5 : Vec Ideal S1x3x512 .f32) (x6 : Vec Ideal S1x3x512 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay3 x1 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  refine (View.canon_unit_zero (Val := Elt Ideal) (S := S16x2048) (e := .bf16) (by decide) _ _).trans ?_
  exact congrArg₂ k0_pay3 (load_whole _ harg3 (by decide) _ _) (load_whole _ harg4 (by decide) _ _)

/-- The block left, a later column block. -/
theorem out_B (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S16x2048 .bf16) (harg11 : arg11.IsWhole) (arg12 : Memref sig .tc .vmem S1040x512 .f32) (harg12 : arg12.IsWhole) (arg13 : Memref sig .tc .vmem S1040x512 .f32) (harg13 : arg13.IsWhole) (hc0 : ¬cond0_0 i)
    (x0 : Vec Ideal S1024x2048 .f32) (x1 : Vec Ideal S16x2048 .f32) (x2 : Vec Ideal S1x2048 .f32) (x3 : Vec Ideal S1x2048x512 .bf16) (x4 : Vec Ideal S1x2048x512 .bf16) (x5 : Vec Ideal S1x3x512 .f32) (x6 : Vec Ideal S1x3x512 .f32) (xs0 : Vec Ideal S1024x2048 .bf16) (xs1 : Vec Ideal S16x2048 .bf16) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1
      = blockOf (k0_pay5 x5) (k0_pay6 x6) (k0_pay9 (k0_pay8 i x3 xs1)) (k0_pay10 (k0_pay7 x3) xs0) (k0_pay12 (k0_pay4 i) x4 xs1) (k0_pay13 x4 xs0) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  funext y
  refine View.canon_apply_of_pieces (Val := Elt Ideal) (S := S1024x512) (e := .bf16) _ _ ?_ y (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 y)
  unfold kernelRun0_B
  dsimp only
  sl_unfold_words
  simp only [strip_read]
  have e3 := load_whole (S := S1x2048x512) (e := .bf16) arg5 harg5 (by decide) inb_S1x2048x512_S1x2048x512_0_0_0 x3
  have e4 := load_whole (S := S1x2048x512) (e := .bf16) arg6 harg6 (by decide) inb_S1x2048x512_S1x2048x512_0_0_0 x4
  have e5 := load_whole (S := S1x3x512) (e := .f32) arg7 harg7 (by decide) inb_S1x3x512_S1x3x512_0_0_0 x5
  have e6 := load_whole (S := S1x3x512) (e := .f32) arg8 harg8 (by decide) inb_S1x3x512_S1x3x512_0_0_0 x6
  have e10 := load_whole (S := S1024x2048) (e := .bf16) arg10 harg10 (by decide) inb_S1024x2048_S1024x2048_0_0 xs0
  have e11 := load_whole (S := S16x2048) (e := .bf16) arg11 harg11 (by decide) inb_S16x2048_S16x2048_0_0 xs1
  rw [e3, e4, e5, e6, e10, e11]
  generalize k0_pay5 x5 = cg, k0_pay6 x6 = cv, k0_pay9 (k0_pay8 i x3 xs1) = Hg, k0_pay10 (k0_pay7 x3) xs0 = Mg,
    k0_pay12 (k0_pay4 i) x4 xs1 = Hv, k0_pay13 x4 xs0 = Mv
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, by simp⟩
  all_goals
    refine Eq.trans ?_ (strip_result cg cv Hg Mg Hv Mv _ _ rfl _ x)
    rfl

/-- The block left, first column block. -/
theorem out_A (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S16x2048 .bf16) (harg11 : arg11.IsWhole) (arg12 : Memref sig .tc .vmem S1040x512 .f32) (harg12 : arg12.IsWhole) (arg13 : Memref sig .tc .vmem S1040x512 .f32) (harg13 : arg13.IsWhole) (hc0 : cond0_0 i)
    (x0 : Vec Ideal S1024x2048 .f32) (x1 : Vec Ideal S16x2048 .f32) (x2 : Vec Ideal S1x2048 .f32) (x3 : Vec Ideal S1x2048x512 .bf16) (x4 : Vec Ideal S1x2048x512 .bf16) (x5 : Vec Ideal S1x3x512 .f32) (x6 : Vec Ideal S1x3x512 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6
      = blockOf (k0_pay5 x5) (k0_pay6 x6) (k0_pay9 (k0_pay8 i x3 (k0_pay3 x1 x2))) (k0_pay10 (k0_pay7 x3) (k0_pay2 x0 x2)) (k0_pay12 (k0_pay4 i) x4 (k0_pay3 x1 x2)) (k0_pay13 x4 (k0_pay2 x0 x2)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  funext y
  refine View.canon_apply_of_pieces (Val := Elt Ideal) (S := S1024x512) (e := .bf16) _ _ ?_ y (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)
  unfold kernelRun0_A
  dsimp only
  sl_unfold_words
  simp only [strip_read]
  have e3 := load_whole (S := S1x2048x512) (e := .bf16) arg5 harg5 (by decide) inb_S1x2048x512_S1x2048x512_0_0_0 x3
  have e4 := load_whole (S := S1x2048x512) (e := .bf16) arg6 harg6 (by decide) inb_S1x2048x512_S1x2048x512_0_0_0 x4
  have e5 := load_whole (S := S1x3x512) (e := .f32) arg7 harg7 (by decide) inb_S1x3x512_S1x3x512_0_0_0 x5
  have e6 := load_whole (S := S1x3x512) (e := .f32) arg8 harg8 (by decide) inb_S1x3x512_S1x3x512_0_0_0 x6
  have e0 := load_whole (S := S1024x2048) (e := .f32) arg2 harg2 (by decide) inb_S1024x2048_S1024x2048_0_0 x0
  have e1 := load_whole (S := S16x2048) (e := .f32) arg3 harg3 (by decide) inb_S16x2048_S16x2048_0_0 x1
  have e2 := load_whole (S := S1x2048) (e := .f32) arg4 harg4 (by decide) inb_S1x2048_S1x2048_0_0 x2
  have e10 := View.readCov_unit_zero (Val := Elt Ideal) (S := S1024x2048) (e := .bf16) arg10.view (by decide) inb_S1024x2048_S1024x2048_0_0 (k0_pay2 x0 x2)
  have e11 := View.readCov_unit_zero (Val := Elt Ideal) (S := S16x2048) (e := .bf16) arg11.view (by decide) inb_S16x2048_S16x2048_0_0 (k0_pay3 x1 x2)
  rw [e3, e4, e5, e6, e0, e1, e2, e10, e11]
  generalize k0_pay5 x5 = cg, k0_pay6 x6 = cv, k0_pay9 (k0_pay8 i x3 (k0_pay3 x1 x2)) = Hg, k0_pay10 (k0_pay7 x3) (k0_pay2 x0 x2) = Mg,
    k0_pay12 (k0_pay4 i) x4 (k0_pay3 x1 x2) = Hv, k0_pay13 x4 (k0_pay2 x0 x2) = Mv
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, by simp⟩
  all_goals
    refine Eq.trans ?_ (strip_result cg cv Hg Mg Hv Mv _ _ rfl _ x)
    rfl

end

end Blocked.Up
-- ==== Proof.UpKernel.lean ====
module
public import proofs.«01_k».proof.Proof.UpBlock

/-! The first feed-forward product over its grid: the normalised rows that the first column block leaves behind, the
    sixteen rows above them, and the result at an index. -/

@[expose] public section

set_option maxRecDepth 16384

open Idealize.ShloMosaic Idealize.ShloMosaic.TcCoe Idealize.SL.Sem

namespace Blocked.Up

noncomputable section

open Cert.Kernel5Ideal Cert.Kernel5Ideal.Gen

/-- The normalised block. -/
theorem rows_apply (x : Vec Ideal S1024x2048 .f32) (w : Vec Ideal S1x2048 .f32) (r : Fin 1024) (d : Fin 2048) :
    k0_pay2 x w (ix2 r d) = nrm (fun k => x (ix2 r k)) (fun k => w (ix2 0 k)) d := by
  unfold k0_pay2
  pointwise
  rfl

/-- The sixteen normalised rows above it. -/
theorem above_apply (x : Vec Ideal S16x2048 .f32) (w : Vec Ideal S1x2048 .f32) (r : Fin 16) (d : Fin 2048) :
    k0_pay3 x w (ix2 r d) = nrm (fun k => x (ix2 r k)) (fun k => w (ix2 0 k)) d := by
  unfold k0_pay3
  pointwise
  rfl

/-- The rows above a block count unless the block starts a sequence. -/
theorem keep_apply (i : grid0.Coords) : k0_pay4 (F := Ideal) i = if (i 0).val % 2 = 0 then (0 : EReal) else 1 := by
  generalize hj : (i 0) = j
  unfold k0_pay4
  rw [hj]
  fin_cases j <;> pointwise <;> first | exact if_pos (by decide) | exact if_neg (by decide)

theorem weights_apply (w : Vec Ideal S1x3x512 .f32) (k : Fin 3) (l : Fin 512) :
    k0_pay5 w (ix2 k l) = Ideal.ofBits .f32 0x3F000000#32 * w (ix3 0 k l) ∧ k0_pay6 w (ix2 k l) = w (ix3 0 k l) := by
  unfold k0_pay5 k0_pay6
  constructor <;> pointwise

theorem above_prod (i : grid0.Coords) (h : Vec Ideal S16x2048 .bf16) (w : Vec Ideal S1x2048x512 .bf16) (a : Fin 16) (l : Fin 512) :
    k0_pay9 (k0_pay8 i w h) (ix2 a l) = (∑ d : Fin 2048, h (ix2 a d) * w (ix3 0 d l)) * k0_pay4 (F := Ideal) i
      ∧ k0_pay12 (k0_pay4 i) w h (ix2 a l) = (∑ d : Fin 2048, h (ix2 a d) * w (ix3 0 d l)) * k0_pay4 (F := Ideal) i := by
  generalize hk : k0_pay4 (F := Ideal) i = k
  unfold k0_pay9 k0_pay8 k0_pay7 k0_pay12 k0_pay11
  rw [hk]
  constructor <;> pointwise

theorem rows_prod (h : Vec Ideal S1024x2048 .bf16) (w : Vec Ideal S1x2048x512 .bf16) (a : Fin 1024) (l : Fin 512) :
    k0_pay10 (k0_pay7 w) h (ix2 a l) = ∑ d : Fin 2048, h (ix2 a d) * w (ix3 0 d l)
      ∧ k0_pay13 w h (ix2 a l) = ∑ d : Fin 2048, h (ix2 a d) * w (ix3 0 d l) := by
  unfold k0_pay10 k0_pay7 k0_pay13 k0_pay11
  constructor <;> pointwise

variable (m : (ℓ : Loc nD τ sig) → Buf (Elt Ideal) ℓ)

theorem places : ∀ t : Fin cfg0.N, win0_0.index t = ![t.val / 11, 0] ∧ win0_1.index t = ![t.val / 11 * 64 - 1, 0] ∧ win0_2.index t = ![0, 0]
    ∧ win0_3.index t = ![0, 0, t.val % 11] ∧ win0_4.index t = ![0, 0, t.val % 11 + 11] ∧ win0_5.index t = ![0, 0, t.val % 11]
    ∧ win0_6.index t = ![0, 0, t.val % 11 + 11] ∧ win0_7.index t = ![t.val / 11, t.val % 11] := (by decide +kernel : ∀ t : Fin grid0.N, _)

theorem flushes : ∀ t : Fin cfg0.N, (cfg0.win 7).flush t = true := (by decide +kernel : ∀ t : Fin grid0.N, _)

theorem first_coord : ∀ t : Fin cfg0.N, ((grid0.coords t) 0).val = t.val / 11 := (by decide +kernel : ∀ t : Fin grid0.N, _)

theorem lt88 (t : Fin cfg0.N) : t.val < 88 := t.isLt

/-- The row of the arrays that row `r` of grid point `t`'s blocks is, the row that row `a` of the sixteen above is, and the
    column, gate's or value's, that column `l` is. -/
def row (t : ℕ) (r : Fin 1024) : ℕ := t / 11 * 1024 + r.val
def rowAbove (t : ℕ) (a : Fin 16) : ℕ := (t / 11 * 64 - 1) * 16 + a.val
def col (k t : ℕ) (l : Fin 512) : Fin 11264 := Fin.ofNat 11264 ((t % 11 + 11 * k) * 512 + l.val)

theorem row_val (t : Fin cfg0.N) (r : Fin 1024) : (Fin.ofNat 8192 (row t.val r)).val = t.val / 11 * 1024 + r.val := by
  have := lt88 t
  unfold row
  rw [Fin.val_ofNat]
  omega

theorem rowAbove_val (t : Fin cfg0.N) (a : Fin 16) : (Fin.ofNat 8192 (rowAbove t.val a)).val = (t.val / 11 * 64 - 1) * 16 + a.val := by
  have := lt88 t
  unfold rowAbove
  rw [Fin.val_ofNat]
  omega

theorem col_val (k : ℕ) (hk : k < 2) (t : ℕ) (l : Fin 512) : (col k t l).val = (t % 11 + 11 * k) * 512 + l.val := by
  unfold col
  rw [Fin.val_ofNat]
  omega

theorem block0 (c : Dev nD) (t : Fin cfg0.N) (r : Fin 1024) (d : Fin 2048) :
    iblk m c 0 t (ix2 r d) = m ((c : Thread nD τ).loc main_arg0) (ix2 (Fin.ofNat 8192 (row t.val r)) d) := by
  rw [← V_main_arg0 m c]
  refine congrArg (V m c main_arg0) (at2 _ ?_ ?_)
  · show win0_0.index t (0 : Fin 2) * 1024 + 1 * r.val = _
    rw [congrFun (places t).1 0, row_val]
    simp
  · show win0_0.index t (1 : Fin 2) * 2048 + 1 * d.val = _
    rw [congrFun (places t).1 1]
    simp

theorem block1 (c : Dev nD) (t : Fin cfg0.N) (a : Fin 16) (d : Fin 2048) :
    iblk m c 1 t (ix2 a d) = m ((c : Thread nD τ).loc main_arg0) (ix2 (Fin.ofNat 8192 (rowAbove t.val a)) d) := by
  rw [← V_main_arg0 m c]
  refine congrArg (V m c main_arg0) (at2 _ ?_ ?_)
  · show win0_1.index t (0 : Fin 2) * 16 + 1 * a.val = _
    rw [congrFun (places t).2.1 0, rowAbove_val]
    simp
  · show win0_1.index t (1 : Fin 2) * 2048 + 1 * d.val = _
    rw [congrFun (places t).2.1 1]
    simp

theorem scales (c : Dev nD) (d : Fin 2048) : V m c main_v0 (ix2 0 d) = m ((c : Thread nD τ).loc main_arg1) (ix1 d) := by
  entry_read
  pointwise

theorem block2 (c : Dev nD) (t : Fin cfg0.N) (d : Fin 2048) :
    iblk m c 2 t (ix2 0 d) = m ((c : Thread nD τ).loc main_arg1) (ix1 d) := by
  rw [← scales m c]
  refine congrArg (V m c main_v0) (at2 _ ?_ ?_)
  · show win0_2.index t (0 : Fin 2) * 1 + 1 * 0 = _
    rw [congrFun (places t).2.2.1 0]
    simp
  · show win0_2.index t (1 : Fin 2) * 2048 + 1 * d.val = _
    rw [congrFun (places t).2.2.1 1]
    simp

theorem narrowed (c : Dev nD) : V m c main_v1 = m ((c : Thread nD τ).loc main_arg2) := by
  entry_read
  rfl

theorem block3 (c : Dev nD) (t : Fin cfg0.N) (d : Fin 2048) (l : Fin 512) :
    iblk m c 3 t (ix3 0 d l) = m ((c : Thread nD τ).loc main_arg2) (ix3 0 d (col 0 t.val l)) := by
  rw [← narrowed m c]
  refine congrArg (V m c main_v1) (at3 _ ?_ ?_ ?_)
  · show win0_3.index t (0 : Fin 3) * 1 + 1 * 0 = _
    rw [congrFun (places t).2.2.2.1 0]
    simp
  · show win0_3.index t (1 : Fin 3) * 2048 + 1 * d.val = _
    rw [congrFun (places t).2.2.2.1 1]
    simp
  · show win0_3.index t (2 : Fin 3) * 512 + 1 * l.val = _
    rw [congrFun (places t).2.2.2.1 2, col_val 0 (by omega)]
    simp

theorem block4 (c : Dev nD) (t : Fin cfg0.N) (d : Fin 2048) (l : Fin 512) :
    iblk m c 4 t (ix3 0 d l) = m ((c : Thread nD τ).loc main_arg2) (ix3 0 d (col 1 t.val l)) := by
  rw [← narrowed m c]
  refine congrArg (V m c main_v1) (at3 _ ?_ ?_ ?_)
  · show win0_4.index t (0 : Fin 3) * 1 + 1 * 0 = _
    rw [congrFun (places t).2.2.2.2.1 0]
    simp
  · show win0_4.index t (1 : Fin 3) * 2048 + 1 * d.val = _
    rw [congrFun (places t).2.2.2.2.1 1]
    simp
  · show win0_4.index t (2 : Fin 3) * 512 + 1 * l.val = _
    rw [congrFun (places t).2.2.2.2.1 2, col_val 1 (by omega)]
    simp

theorem block5 (c : Dev nD) (t : Fin cfg0.N) (k : Fin 3) (l : Fin 512) :
    iblk m c 5 t (ix3 0 k l) = m ((c : Thread nD τ).loc main_arg3) (ix3 0 k (col 0 t.val l)) := by
  rw [← V_main_arg3 m c]
  refine congrArg (V m c main_arg3) (at3 _ ?_ ?_ ?_)
  · show win0_5.index t (0 : Fin 3) * 1 + 1 * 0 = _
    rw [congrFun (places t).2.2.2.2.2.1 0]
    simp
  · show win0_5.index t (1 : Fin 3) * 3 + 1 * k.val = _
    rw [congrFun (places t).2.2.2.2.2.1 1]
    simp
  · show win0_5.index t (2 : Fin 3) * 512 + 1 * l.val = _
    rw [congrFun (places t).2.2.2.2.2.1 2, col_val 0 (by omega)]
    simp

theorem block6 (c : Dev nD) (t : Fin cfg0.N) (k : Fin 3) (l : Fin 512) :
    iblk m c 6 t (ix3 0 k l) = m ((c : Thread nD τ).loc main_arg3) (ix3 0 k (col 1 t.val l)) := by
  rw [← V_main_arg3 m c]
  refine congrArg (V m c main_arg3) (at3 _ ?_ ?_ ?_)
  · show win0_6.index t (0 : Fin 3) * 1 + 1 * 0 = _
    rw [congrFun (places t).2.2.2.2.2.2.1 0]
    simp
  · show win0_6.index t (1 : Fin 3) * 3 + 1 * k.val = _
    rw [congrFun (places t).2.2.2.2.2.2.1 1]
    simp
  · show win0_6.index t (2 : Fin 3) * 512 + 1 * l.val = _
    rw [congrFun (places t).2.2.2.2.2.2.1 2, col_val 1 (by omega)]
    simp

/-- The normalised row `r` of the arrays. -/
def normed (c : Dev nD) (r : ℕ) (d : Fin 2048) : EReal :=
  nrm (fun k => m ((c : Thread nD τ).loc main_arg0) (ix2 (Fin.ofNat 8192 r) k)) (fun k => m ((c : Thread nD τ).loc main_arg1) (ix1 k)) d

theorem normed_rows (c : Dev nD) (t : Fin cfg0.N) (r : Fin 1024) (d : Fin 2048) :
    k0_pay2 (iblk m c 0 t) (iblk m c 2 t) (ix2 r d) = normed m c (row t.val r) d := by
  refine (rows_apply _ _ r d).trans ?_
  unfold normed
  refine congrArg₂ (fun v w => nrm v w d) (funext fun k => ?_) (funext fun k => ?_)
  · exact block0 m c t r k
  · exact block2 m c t k

theorem normed_above (c : Dev nD) (t : Fin cfg0.N) (a : Fin 16) (d : Fin 2048) :
    k0_pay3 (iblk m c 1 t) (iblk m c 2 t) (ix2 a d) = normed m c (rowAbove t.val a) d := by
  refine (above_apply _ _ a d).trans ?_
  unfold normed
  refine congrArg₂ (fun v w => nrm v w d) (funext fun k => ?_) (funext fun k => ?_)
  · exact block1 m c t a k
  · exact block2 m c t k

/-- What the two carried scratch arrays hold after each grid point. -/
theorem held (c : Dev nD) : ∀ (n : ℕ) (hn : n < cfg0.N), (∀ r d, (outsAt0 m c n hn).2.1 (ix2 r d) = normed m c (row n r) d)
    ∧ ∀ a d, (outsAt0 m c n hn).2.2 (ix2 a d) = normed m c (rowAbove n a) d := by
  intro n
  have first : ∀ t : Fin cfg0.N, t.val % 11 = 0 → (∀ r d, (outsAt0 m c t.val t.isLt).2.1 (ix2 r d) = normed m c (row t.val r) d)
      ∧ ∀ a d, (outsAt0 m c t.val t.isLt).2.2 (ix2 a d) = normed m c (rowAbove t.val a) d := by
    intro t h
    rw [outsAt0_A m c t h]
    dsimp only
    rw [left_A0, left_A1]
    exact ⟨normed_rows m c t, normed_above m c t⟩
  induction n with
  | zero => exact fun hn => first ⟨0, hn⟩ rfl
  | succ n ih =>
    intro hn
    by_cases h : (n + 1) % 11 = 0
    · exact first ⟨n + 1, hn⟩ h
    · rw [outsAt0_B m c ⟨n + 1, hn⟩ h]
      dsimp only
      unfold sout0_B_0 sout0_B_1
      simp only [Nat.add_sub_cancel]
      have e : (n + 1) / 11 = n / 11 := by omega
      refine ⟨fun r d => ((ih _).1 r d).trans ?_, fun a d => ((ih _).2 a d).trans ?_⟩
      · unfold row
        rw [e]
      · unfold rowAbove
        rw [e]

/-- The projected rows. -/
def proj (c : Dev nD) (l : Fin 11264) (r : ℕ) : EReal :=
  up (m ((c : Thread nD τ).loc main_arg0)) (m ((c : Thread nD τ).loc main_arg1)) (m ((c : Thread nD τ).loc main_arg2)) l r

theorem proj_of (c : Dev nD) (l : Fin 11264) (r : ℕ) (f w : Fin 2048 → EReal) (hf : ∀ d, f d = normed m c r d)
    (hw : ∀ d, w d = m ((c : Thread nD τ).loc main_arg2) (ix3 0 d l)) : ∑ d, f d * w d = proj m c l r := by
  obtain rfl := funext hf
  obtain rfl := funext hw
  rfl

/-- The convolution over a tall scratch array is that over the rows of the sequence. -/
theorem tap_mix (t : Fin cfg0.N) (k : ℕ) (u : Fin 11264 → ℕ → EReal) (cw : S3x512.Idx → EReal) (H : S16x512.Idx → EReal) (M : S1024x512.Idx → EReal)
    (hH : ∀ a l, H (ix2 a l) = u (col k t.val l) (rowAbove t.val a) * k0_pay4 (F := Ideal) (grid0.coords t))
    (hM : ∀ r l, M (ix2 r l) = u (col k t.val l) (row t.val r)) (r : Fin 1024) (l : Fin 512) :
    tap cw (tall H M) (16 + r.val) l = mix (cw (ix2 0 l)) (cw (ix2 1 l)) (cw (ix2 2 l)) (u (col k t.val l)) (row t.val r) := by
  have hr := r.isLt
  have ht := lt88 t
  have hs : ∀ d, d ≤ 2 → tall H M (16 + r.val - d) l = past (u (col k t.val l)) (row t.val r) d := by
    intro d hd
    unfold tall past
    by_cases h : d ≤ r.val
    · rw [dif_neg (by omega), hM, if_pos (by unfold row; omega)]
      congr 1
      unfold row
      rw [Fin.val_ofNat]
      omega
    · rw [dif_pos (by omega), hH, keep_apply, first_coord]
      by_cases h2 : t.val / 11 % 2 = 0
      · rw [if_pos h2, if_neg (by unfold row; omega)]
        exact mul_zero _
      · rw [if_neg h2, if_pos (by unfold row; omega)]
        refine (mul_one _).trans (congrArg _ ?_)
        unfold row rowAbove
        dsimp only
        omega
  have h0 : tall H M (16 + r.val) l = u (col k t.val l) (row t.val r) := by
    have h := hs 0 (by omega)
    unfold past at h
    rwa [if_pos (Nat.zero_le _)] at h
  unfold tap mix
  rw [h0, hs 2 (by omega), hs 1 (by omega)]

/-- What a grid point writes back. -/
theorem written (c : Dev nD) (t : Fin cfg0.N) (r : Fin 1024) (l : Fin 512) :
    (outsAt0 m c t.val t.isLt).1 (ix2 r l)
      = gated (mix (Ideal.ofBits .f32 0x3F000000#32 * m ((c : Thread nD τ).loc main_arg3) (ix3 0 0 (col 0 t.val l)))
            (Ideal.ofBits .f32 0x3F000000#32 * m ((c : Thread nD τ).loc main_arg3) (ix3 0 1 (col 0 t.val l)))
            (Ideal.ofBits .f32 0x3F000000#32 * m ((c : Thread nD τ).loc main_arg3) (ix3 0 2 (col 0 t.val l))) (proj m c (col 0 t.val l)) (row t.val r))
          (mix (m ((c : Thread nD τ).loc main_arg3) (ix3 0 0 (col 1 t.val l))) (m ((c : Thread nD τ).loc main_arg3) (ix3 0 1 (col 1 t.val l)))
            (m ((c : Thread nD τ).loc main_arg3) (ix3 0 2 (col 1 t.val l))) (proj m c (col 1 t.val l)) (row t.val r)) := by
  have key : ∀ (h : Vec Ideal S1024x2048 .bf16) (hh : Vec Ideal S16x2048 .bf16), (∀ r d, h (ix2 r d) = normed m c (row t.val r) d) →
      (∀ a d, hh (ix2 a d) = normed m c (rowAbove t.val a) d) →
      blockOf (k0_pay5 (iblk m c 5 t)) (k0_pay6 (iblk m c 6 t)) (k0_pay9 (k0_pay8 (grid0.coords t) (iblk m c 3 t) hh)) (k0_pay10 (k0_pay7 (iblk m c 3 t)) h)
        (k0_pay12 (k0_pay4 (grid0.coords t)) (iblk m c 4 t) hh) (k0_pay13 (iblk m c 4 t) h) (ix2 r l)
      = gated (mix (Ideal.ofBits .f32 0x3F000000#32 * m ((c : Thread nD τ).loc main_arg3) (ix3 0 0 (col 0 t.val l)))
            (Ideal.ofBits .f32 0x3F000000#32 * m ((c : Thread nD τ).loc main_arg3) (ix3 0 1 (col 0 t.val l)))
            (Ideal.ofBits .f32 0x3F000000#32 * m ((c : Thread nD τ).loc main_arg3) (ix3 0 2 (col 0 t.val l))) (proj m c (col 0 t.val l)) (row t.val r))
          (mix (m ((c : Thread nD τ).loc main_arg3) (ix3 0 0 (col 1 t.val l))) (m ((c : Thread nD τ).loc main_arg3) (ix3 0 1 (col 1 t.val l)))
            (m ((c : Thread nD τ).loc main_arg3) (ix3 0 2 (col 1 t.val l))) (proj m c (col 1 t.val l)) (row t.val r)) := by
    intro h hh e eh
    refine congrArg₂ gated ((tap_mix t 0 (proj m c) _ _ _ (fun a l => ?_) (fun r l => ?_) r l).trans ?_)
      ((tap_mix t 1 (proj m c) _ _ _ (fun a l => ?_) (fun r l => ?_) r l).trans ?_)
    · refine (above_prod _ _ _ a l).1.trans (congrArg (fun e : EReal => e * _) ?_)
      exact proj_of m c _ _ _ _ (fun d => eh a d) (fun d => block3 m c t d l)
    · refine (rows_prod _ _ r l).1.trans ?_
      exact proj_of m c _ _ _ _ (fun d => e r d) (fun d => block3 m c t d l)
    · rw [(weights_apply _ 0 l).1, (weights_apply _ 1 l).1, (weights_apply _ 2 l).1, block5, block5, block5]
    · refine (above_prod _ _ _ a l).2.trans (congrArg (fun e : EReal => e * _) ?_)
      exact proj_of m c _ _ _ _ (fun d => eh a d) (fun d => block4 m c t d l)
    · refine (rows_prod _ _ r l).2.trans ?_
      exact proj_of m c _ _ _ _ (fun d => e r d) (fun d => block4 m c t d l)
    · rw [(weights_apply _ 0 l).2, (weights_apply _ 1 l).2, (weights_apply _ 2 l).2, block6, block6, block6]
  by_cases h : t.val % 11 = 0
  · rw [outsAt0_A m c t h]
    dsimp only
    rw [out_A]
    exact key _ _ (normed_rows m c t) (normed_above m c t)
  · rw [outsAt0_B m c t h]
    dsimp only
    rw [out_B]
    have e : (t.val - 1) / 11 = t.val / 11 := by omega
    refine key _ _ (fun r d => ((held m c _ _).1 r d).trans ?_) (fun a d => ((held m c _ _).2 a d).trans ?_)
    · unfold row
      rw [e]
    · unfold rowAbove
      rw [e]

/-- The kernel's result at an index of the block of grid point `t`, where the weights of the gate are real. -/
theorem kernel_block (c : Dev nD) (h1 : ∀ k, IsReal (m ((c : Thread nD τ).loc main_arg1) (ix1 k)))
    (h2 : ∀ d (l : Fin 5632), IsReal (m ((c : Thread nD τ).loc main_arg2) (ix3 0 d ⟨l.val, by omega⟩)))
    (h3 : ∀ k (l : Fin 5632), IsReal (m ((c : Thread nD τ).loc main_arg3) (ix3 0 k ⟨l.val, by omega⟩)))
    (t : Fin cfg0.N) (r : Fin 1024) (l : Fin 512) (R : Fin 8192) (L : Fin 5632) (hR : R.val = t.val / 11 * 1024 + r.val) (hL : L.val = t.val % 11 * 512 + l.val) :
    (dats m 0 c).arrAt 7 cfg0.N (ix2 R L)
      = result (m ((c : Thread nD τ).loc main_arg0)) (m ((c : Thread nD τ).loc main_arg1)) (m ((c : Thread nD τ).loc main_arg2)) (m ((c : Thread nD τ).loc main_arg3)) R L := by
  have h := congrFun (Cert.Kernel5Ideal.Value.blocks7 m c t (flushes t)) (ix2 r l)
  rw [Cert.Kernel5Ideal.Value.flushed7] at h
  refine Eq.trans (congrArg ((dats m 0 c).arrAt 7 cfg0.N) (at2 (((cfg0.win 7).blk t).view.emb (ix2 r l)) ?_ ?_).symm)
    ((h.trans (written m c t r l)).trans ?_)
  · show win0_7.index t (0 : Fin 2) * 1024 + 1 * r.val = _
    rw [congrFun (places t).2.2.2.2.2.2.2 0, hR]
    simp
  · show win0_7.index t (1 : Fin 2) * 512 + 1 * l.val = _
    rw [congrFun (places t).2.2.2.2.2.2.2 1, hL]
    simp
  · have e0 : col 0 t.val l = ⟨L.val, by omega⟩ := Fin.ext ((col_val 0 (by omega) _ _).trans (by dsimp only; omega))
    have e1 : col 1 t.val l = ⟨5632 + L.val, by omega⟩ := Fin.ext ((col_val 1 (by omega) _ _).trans (by dsimp only; omega))
    rw [e0, e1, show row t.val r = R.val from hR.symm]
    exact gated_half (h3 _ L) (h3 _ L) (h3 _ L) (up_real _ h1 fun d => h2 d L) _ _

/-- The kernel's result at an index, where the weights of the gate are real. -/
theorem kernel_apply (c : Dev nD) (h1 : ∀ k, IsReal (m ((c : Thread nD τ).loc main_arg1) (ix1 k)))
    (h2 : ∀ d (l : Fin 5632), IsReal (m ((c : Thread nD τ).loc main_arg2) (ix3 0 d ⟨l.val, by omega⟩)))
    (h3 : ∀ k (l : Fin 5632), IsReal (m ((c : Thread nD τ).loc main_arg3) (ix3 0 k ⟨l.val, by omega⟩))) (r : Fin 8192) (l : Fin 5632) :
    (dats m 0 c).arrAt 7 cfg0.N (ix2 r l)
      = result (m ((c : Thread nD τ).loc main_arg0)) (m ((c : Thread nD τ).loc main_arg1)) (m ((c : Thread nD τ).loc main_arg2)) (m ((c : Thread nD τ).loc main_arg3)) r l := by
  have hr := r.isLt
  have hl := l.isLt
  have ht : r.val / 1024 * 11 + l.val / 512 < 88 := by omega
  exact kernel_block m c h1 h2 h3 (⟨r.val / 1024 * 11 + l.val / 512, ht⟩ : Fin cfg0.N) ⟨r.val % 1024, by omega⟩ ⟨l.val % 512, by omega⟩ r l
    (by dsimp only; omega) (by dsimp only; omega)

end

end Blocked.Up
-- ==== Proof.UpRef.lean ====
module
public import proofs.«01_k».proof.Proof.UpMath
public import proofs.«01_k».proof.Proof.Gen.Reference5Ideal.Run

/-! The plain form of the first feed-forward product, read at an index. -/

@[expose] public section

set_option maxRecDepth 16384

open Idealize.ShloMosaic Idealize.ShloMosaic.TcCoe Idealize.SL.Sem

namespace Blocked.Up

noncomputable section

open Cert.Reference5Ideal Cert.Reference5Ideal.Gen Cert.Reference5Ideal.Value

/-- The row of the arrays that row `t` of sequence `b` is. -/
def flat (b : Fin 4) (t : Fin 2048) : ℕ := b.val * 2048 + t.val

/-- The up-projection of the normalised rows. -/
theorem ref_proj (x : FVec Ideal S8192x2048 .f32) (n : FVec Ideal S2048 .f32) (w : FVec Ideal S4x2048x11264 .f32) (b : Fin 4) (t : Fin 2048) (l : Fin 11264) :
    (Host.dotGeneral dot_S4x2048x2048_S2048x11264_S4x2048x11264_2_0_01_1_n_n none (mulf (mulf (shapeCast _ x shapeCasts_S8192x2048_S4x2048x2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (shapeCast _ x shapeCasts_S8192x2048_S4x2048x2048) (shapeCast _ x shapeCasts_S8192x2048_S4x2048x2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 n))) (shapeCast _ (extractStridedSlice S1x2048x11264 ![0, 0, 0] w slices_S4x2048x11264_S1x2048x11264_0_0_0) shapeCasts_S1x2048x11264_S2048x11264) : FVec Ideal S4x2048x11264 .f32) (ix3 b t l) = up x n w l (flat b t) := by
  pointwise
  unfold up nrm flat
  have h : ∀ hh, (⟨b.val * 2048 + t.val, hh⟩ : Fin 8192) = Fin.ofNat 8192 (b.val * 2048 + t.val) :=
    fun hh => Fin.ext (by rw [Fin.val_ofNat, Nat.mod_eq_of_lt hh])
  simp only [h]

/-- A padded row's entry. -/
theorem past_of (P : FVec Ideal S4x2048x11264 .f32) (u : ℕ → EReal) (l : Fin 11264) (b : Fin 4) (t : Fin 2048)
    (hu : ∀ s, P (ix3 b s l) = u (flat b s)) (d n : ℕ) (hd : d + n = t.val + 2) (hd' : d ≤ 2) (z : EReal) (hz : z = 0) :
    (if h : 2 ≤ n ∧ n - 2 < 2048 then P (ix3 b ⟨n - 2, h.2⟩ l) else z) = past u (flat b t) d := by
  have ht := t.isLt
  have hm : flat b t % 2048 = t.val := by unfold flat; omega
  unfold past
  rw [hm]
  by_cases h : d ≤ t.val
  · rw [dif_pos (by omega), if_pos h, hu]
    congr 1
    unfold flat
    dsimp only
    omega
  · rw [dif_neg (by omega), if_neg h, hz]

/-- The convolution of the projected rows. -/
theorem ref_conv (P : FVec Ideal S4x2048x11264 .f32) (cw : FVec Ideal S4x3x11264 .f32) (u : ℕ → EReal) (b : Fin 4) (t : Fin 2048) (l : Fin 11264)
    (hu : ∀ s, P (ix3 b s l) = u (flat b s)) :
    (addf (addf (addf (broadcastInDim S4x2048x11264 ![] bcast_S_S4x2048x11264 (constant S_ .f32 0x00000000#32)) (mulf (extractStridedSlice S4x2048x11264 ![0, 0, 0] (pad S4x2050x11264 ![0, 2, 0] ![0, 0, 0] ![0, 0, 0] P (sitofp .f32 (constantI S_ 32 0#32)) pads_S4x2048x11264_S4x2050x11264_000_200_000 h_S_) slices_S4x2050x11264_S4x2048x11264_0_0_0) (broadcastInDim S4x2048x11264 ![0, 1, 2] bcast_S1x1x11264_S4x2048x11264_0_1_2 (broadcastInDim S1x1x11264 ![2] bcast_S11264_S1x1x11264_2 (shapeCast _ (extractStridedSlice S1x11264 ![0, 0] (shapeCast _ (extractStridedSlice S1x3x11264 ![0, 0, 0] cw slices_S4x3x11264_S1x3x11264_0_0_0) shapeCasts_S1x3x11264_S3x11264) slices_S3x11264_S1x11264_0_0) shapeCasts_S1x11264_S11264))))) (mulf (extractStridedSlice S4x2048x11264 ![0, 1, 0] (pad S4x2050x11264 ![0, 2, 0] ![0, 0, 0] ![0, 0, 0] P (sitofp .f32 (constantI S_ 32 0#32)) pads_S4x2048x11264_S4x2050x11264_000_200_000 h_S_) slices_S4x2050x11264_S4x2048x11264_0_1_0) (broadcastInDim S4x2048x11264 ![0, 1, 2] bcast_S1x1x11264_S4x2048x11264_0_1_2 (broadcastInDim S1x1x11264 ![2] bcast_S11264_S1x1x11264_2 (shapeCast _ (extractStridedSlice S1x11264 ![1, 0] (shapeCast _ (extractStridedSlice S1x3x11264 ![0, 0, 0] cw slices_S4x3x11264_S1x3x11264_0_0_0) shapeCasts_S1x3x11264_S3x11264) slices_S3x11264_S1x11264_1_0) shapeCasts_S1x11264_S11264))))) (mulf (extractStridedSlice S4x2048x11264 ![0, 2, 0] (pad S4x2050x11264 ![0, 2, 0] ![0, 0, 0] ![0, 0, 0] P (sitofp .f32 (constantI S_ 32 0#32)) pads_S4x2048x11264_S4x2050x11264_000_200_000 h_S_) slices_S4x2050x11264_S4x2048x11264_0_2_0) (broadcastInDim S4x2048x11264 ![0, 1, 2] bcast_S1x1x11264_S4x2048x11264_0_1_2 (broadcastInDim S1x1x11264 ![2] bcast_S11264_S1x1x11264_2 (shapeCast _ (extractStridedSlice S1x11264 ![2, 0] (shapeCast _ (extractStridedSlice S1x3x11264 ![0, 0, 0] cw slices_S4x3x11264_S1x3x11264_0_0_0) shapeCasts_S1x3x11264_S3x11264) slices_S3x11264_S1x11264_2_0) shapeCasts_S1x11264_S11264)))) : FVec Ideal S4x2048x11264 .f32) (ix3 b t l)
      = mix (cw (ix3 0 0 l)) (cw (ix3 0 1 l)) (cw (ix3 0 2 l)) u (flat b t) := by
  have hz : (FloatOps.sitofp FTy.f32 (0 : BitVec 32) : Ideal .f32) = (0 : EReal) := by
    show (((0 : BitVec 32).toInt : ℝ) : EReal) = 0
    simp
  pointwise
  refine (congrArg₂ (fun p q : EReal => p * cw (ix3 0 0 l) + q * cw (ix3 0 1 l) + P (ix3 b t l) * cw (ix3 0 2 l))
    (past_of P u l b t hu 2 t.val (by omega) (by omega) _ hz) (past_of P u l b t hu 1 (1 + t.val) (by omega) (by omega) _ hz)).trans ?_
  unfold mix
  rw [hu t, add_comm, ← add_assoc, mul_comm, mul_comm (past _ _ 2), mul_comm (past _ _ 1)]

/-- The gate times the value. -/
theorem ref_gate (G : FVec Ideal S4x2048x11264 .f32) (g : Fin 11264 → ℕ → EReal) (hg : ∀ b t l, G (ix3 b t l) = g l (flat b t)) (r : Fin 8192) (l : Fin 5632) :
    (truncf .bf16 (shapeCast _ (mulf (mulf (extractStridedSlice S4x2048x5632 ![0, 0, 0] G slices_S4x2048x11264_S4x2048x5632_0_0_0) (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (extractStridedSlice S4x2048x5632 ![0, 0, 0] G slices_S4x2048x11264_S4x2048x5632_0_0_0)))))) (extractStridedSlice S4x2048x5632 ![0, 0, 5632] G slices_S4x2048x11264_S4x2048x5632_0_0_5632)) shapeCasts_S4x2048x5632_S8192x5632) bitsLt_bf16_f32 : FVec Ideal S8192x5632 .bf16) (ix2 r l)
      = g ⟨l.val, by omega⟩ r.val * Ideal.div 1 (1 + Ideal.exp (-g ⟨l.val, by omega⟩ r.val)) * g ⟨5632 + l.val, by omega⟩ r.val := by
  have hf : ∀ h1 h2, flat ⟨r.val / 2048, h1⟩ ⟨r.val % 2048, h2⟩ = r.val := fun _ _ => by unfold flat; dsimp only; omega
  pointwise
  rw [hg, hg, hf]

/-- The plain form at an index. -/
theorem ref_apply (m : (ℓ : Loc nD τ sig) → Buf (Elt Ideal) ℓ) (c : Dev nD) (r : Fin 8192) (l : Fin 5632) :
    res_main_v47 m c (ix2 r l) = result (m ((c.tc : Thread nD τ).loc main_arg0)) (m ((c.tc : Thread nD τ).loc main_arg1)) (m ((c.tc : Thread nD τ).loc main_arg2))
      (m ((c.tc : Thread nD τ).loc main_arg3)) r l := by
  unfold res_main_v47
  exact ref_gate _ (conv _ _ _ _) (fun b t l => ref_conv _ _ _ b t l fun s => ref_proj _ _ _ b s l) r l

end

end Blocked.Up
-- ==== Proof.UpPre.lean ====
module
public import proofs.«01_k».proof.Proof.UpMath
public import proofs.«01_k».proof.Pre_finite

/-! What the precondition says: the weights that the gate reads are real numbers. -/

@[expose] public section

set_option maxRecDepth 16384

open Idealize.ShloMosaic Idealize.ShloMosaic.TcCoe Idealize.SL.Sem

namespace Blocked.Up

/-- The side conditions of the precondition's operations. -/
instance preFacts : Cert.Pre_finite.Facts where
  slices_S4x2048x11264_S1x2048x5632_0_0_0 := by decide
  shapeCasts_S1x2048x5632_S2048x5632 := by decide
  slices_S4x3x11264_S1x3x5632_0_0_0 := by decide
  shapeCasts_S1x3x5632_S3x5632 := by decide
  bcast_S_S2048 := by decide
  bcast_S_S2048x5632 := by decide
  bcast_S_S3x5632 := by decide

/-- A value whose magnitude is below infinity is a real number. -/
theorem real_of_below {z : EReal}
    (h : BitVec.ofBool (decide (FloatOps.absf (F := Ideal) (φ := .f32) z < Ideal.ofBits FTy.f32 0x7F800000#32)) = 1#1) : IsReal z := by
  have ht : Ideal.ofBits FTy.f32 0x7F800000#32 = ⊤ := by simp [Ideal.ofBits, Ideal.ieee]
  have hl : (FloatOps.absf (F := Ideal) (φ := .f32) z : EReal) < ⊤ := by
    rw [ht] at h
    by_contra hn
    rw [decide_eq_false hn] at h
    exact absurd h (by decide)
  have hm : max z (-z) < ⊤ := hl
  rw [max_lt_iff] at hm
  refine ⟨z.toReal, (EReal.coe_toReal hm.1.ne fun hb => ?_).symm⟩
  rw [hb] at hm
  exact hm.2.ne rfl

open Cert.Pre_finite in
/-- What the three masks say. -/
theorem pre_reads (x : FVec Ideal S8192x2048 .f32) (n : FVec Ideal S2048 .f32) (w : FVec Ideal S4x2048x11264 .f32) (cw : FVec Ideal S4x3x11264 .f32)
    (h1 : (fn (F := Ideal) x n w cw).1 = fun _ => 1#1) (h2 : (fn (F := Ideal) x n w cw).2.1 = fun _ => 1#1)
    (h3 : (fn (F := Ideal) x n w cw).2.2 = fun _ => 1#1) :
    (∀ k, IsReal (n (ix1 k))) ∧ (∀ d (l : Fin 5632), IsReal (w (ix3 0 d ⟨l.val, by omega⟩))) ∧ ∀ k (l : Fin 5632), IsReal (cw (ix3 0 k ⟨l.val, by omega⟩)) := by
  refine ⟨fun k => ?_, fun d l => ?_, fun k l => ?_⟩
  · have h := congrFun h1 (ix1 k)
    unfold fn at h
    pointwise at h
    exact real_of_below h
  · have h := congrFun h2 (ix2 d l)
    unfold fn at h
    pointwise at h
    exact real_of_below h
  · have h := congrFun h3 (ix2 k l)
    unfold fn at h
    pointwise at h
    exact real_of_below h

end Blocked.Up
-- ==== Proof.lean ====
module

public import proofs.«01_k».proof.Defs
public import proofs.«01_k».proof.Proof.Norm
public import proofs.«01_k».proof.Proof.Reorder
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.KernelFinal
public import proofs.«01_k».proof.Proof.RefFinal
public import proofs.«01_k».proof.Proof.Down
public import proofs.«01_k».proof.Proof.OutProj
public import proofs.«01_k».proof.Proof.InProj
public import proofs.«01_k».proof.Proof.UpKernel
public import proofs.«01_k».proof.Proof.UpRef
public import proofs.«01_k».proof.Proof.UpPre
public import Idealize.ShloMosaic.Adequacy
public import Idealize.ShloMosaic.Init

@[expose] public section

noncomputable section

namespace Cert.Proof

open Idealize.ShloMosaic Idealize.SL.Sem Cert.Kernel

/-- The kernel's result and the reference's are one array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : MLstm.rX m' c = MLstm.proj m c) (h1 : MLstm.rI m' c = MLstm.biasI m c) (h2 : MLstm.rF m' c = MLstm.biasF m c)
    (h3 : MLstm.rW m' c = MLstm.scaleN m c) :
    (Cert.ReferenceIdeal.Value.out_main_v73 (Cert.ReferenceIdeal.Value.STEP^[32] (StableHlo.entryContents Cert.ReferenceIdeal.Value.preI m' c))
      : FVec Ideal ⟨3, ![4, 2048, 512]⟩ .bf16) = Cert.KernelIdeal.Value.G7 m c := by
  refine funext fun i => ?_
  rw [eq_ix3 i]
  refine (MLstm.ref_apply m' c (i 0) (i 1) (i 2)).trans (Eq.trans ?_ (MLstm.kernel_apply m c (i 0) (i 1) (i 2)).symm)
  rw [h0, h1, h2, h3]

/-- The second product of the feed-forward part: the kernel's array is one that holds the product's values. -/
theorem same2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (v : FVec Ideal ⟨2, ![8192, 2048]⟩ .f32)
    (hv : ∀ r l, v (ix2 r l) = Blocked.Down.down (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) r l) :
    v = (Cert.Kernel2Ideal.Gen.dats m 0 c).arrAt 3 Cert.Kernel2Ideal.cfg0.N := by
  refine funext fun i => ?_
  rw [eq_ix2 i]
  refine (hv (i 0) (i 1)).trans ?_
  refine Eq.trans ?_ (Blocked.Down.kernel_apply m c (i 0) (i 1)).symm
  rw [h0, h1, h2]

/-- The output projection, likewise. -/
theorem same3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (v : FVec Ideal ⟨2, ![8192, 2048]⟩ .f32)
    (hv : ∀ r l, v (ix2 r l) = Blocked.OutProj.out (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) r l) :
    v = (Cert.Kernel3Ideal.Gen.dats m 0 c).arrAt 7 Cert.Kernel3Ideal.cfg0.N := by
  refine funext fun i => ?_
  rw [eq_ix2 i]
  refine (hv (i 0) (i 1)).trans ?_
  refine Eq.trans ?_ (Blocked.OutProj.kernel_apply m c (i 0) (i 1)).symm
  rw [h0, h1, h2, h3, h4]

/-- The input projection, likewise. -/
theorem same4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (v : FVec Ideal ⟨2, ![8192, 5760]⟩ .f32)
    (hv : ∀ r l, v (ix2 r l) = Blocked.InProj.prod (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) r l) :
    v = (Cert.Kernel4Ideal.Gen.dats m 0 c).arrAt 3 Cert.Kernel4Ideal.cfg0.N := by
  refine funext fun i => ?_
  rw [eq_ix2 i]
  refine (hv (i 0) (i 1)).trans ?_
  refine Eq.trans ?_ (Blocked.InProj.kernel_apply m c (i 0) (i 1)).symm
  rw [h0, h1, h2]

theorem same5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (hp : Pre_Kernel5Ideal_finite m)
    (v : FVec Ideal ⟨2, ![8192, 5632]⟩ .bf16)
    (hv : ∀ r l, v (ix2 r l) = Blocked.Up.result (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) r l) :
    v = (Cert.Kernel5Ideal.Gen.dats m 0 c).arrAt 7 Cert.Kernel5Ideal.cfg0.N := by
  obtain ⟨p1, p2, p3⟩ := Blocked.Up.pre_reads _ _ _ _ (hp c).1 (hp c).2.1 (hp c).2.2
  refine funext fun i => ?_
  rw [eq_ix2 i]
  refine (hv (i 0) (i 1)).trans ?_
  refine Eq.trans ?_ (Blocked.Up.kernel_apply m c p1 p2 p3 (i 0) (i 1)).symm
  rw [h0, h1, h2, h3]

/-- The final normalisation, likewise. -/
theorem same6 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (v : FVec Ideal ⟨2, ![8192, 2048]⟩ .f32)
    (hv : ∀ r l, v (ix2 r l) = Blocked.Norm.rows (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) r l) :
    v = (Cert.Kernel6Ideal.Gen.dats m 0 c).arrAt 2 Cert.Kernel6Ideal.cfg0.N := by
  refine funext fun i => ?_
  rw [eq_ix2 i]
  refine (hv (i 0) (i 1)).trans ?_
  refine Eq.trans ?_ (Blocked.Norm.kernel_apply m c (i 0) (i 1)).symm
  rw [h0, h1]

/-- The reordered weights, likewise. -/
theorem same7 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))
    (v : FVec Ideal ⟨3, ![4, 5760, 2048]⟩ .bf16)
    (hv : ∀ b r l, v (ix3 b r l) = Blocked.Reorder.laid (m' ((c.tc : Thread Cert.Reference7Ideal.nD Cert.Reference7Ideal.τ).loc Cert.Reference7Ideal.main_arg0)) b r l) :
    v = (Cert.Kernel7Ideal.Gen.dats m 0 c).arrAt 1 Cert.Kernel7Ideal.cfg0.N := by
  refine funext fun i => ?_
  rw [eq_ix3 i]
  refine (hv (i 0) (i 1) (i 2)).trans ?_
  refine Eq.trans ?_ (Blocked.Reorder.kernel_apply m c (i 0) (i 1) (i 2)).symm
  rw [h0]

theorem frame5 : quiescent_Reference5Ideal := fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Blocked.Up.preFacts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => Cert.Kernel5Ideal.Gen.frame m ρ,
  frame5,
  fun m ρ _ => frame5 m ρ trivial,
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ),
  trivial,
  fun m ρ m' ρ' _ hargs => ⟨fun c => Cert.KernelIdeal.Value.G7 m c, Cert.KernelIdeal.Value.run (F := Ideal) m ρ,
    (θ_run Cert.ReferenceIdeal.defs _ _).mono
      (fun _ h c => ⟨(h c).1.trans (same m m' c (hargs c).1 (hargs c).2.1 (hargs c).2.2.1 (hargs c).2.2.2), (h c).2⟩)
      (Cert.ReferenceIdeal.Value.run (F := Ideal) m' ρ')⟩,
  trivial,
  fun m ρ m' ρ' _ hargs => ⟨fun c => (Cert.Kernel2Ideal.Gen.dats m 0 c).arrAt 3 Cert.Kernel2Ideal.cfg0.N, Cert.Kernel2Ideal.Value.run_blocks (F := Ideal) m ρ,
    (θ_run Cert.Reference2Ideal.defs _ _).mono
      (fun _ h c => ⟨(h c).1.trans (same2 m m' c (hargs c).1 (hargs c).2.1 (hargs c).2.2 _ fun r l => Blocked.Down.ref_apply _ _ _ r l), (h c).2⟩)
      (Cert.Reference2Ideal.Value.run (F := Ideal) m' ρ')⟩,
  trivial,
  fun m ρ m' ρ' _ hargs => ⟨fun c => (Cert.Kernel3Ideal.Gen.dats m 0 c).arrAt 7 Cert.Kernel3Ideal.cfg0.N, Cert.Kernel3Ideal.Value.run_blocks (F := Ideal) m ρ,
    (θ_run Cert.Reference3Ideal.defs _ _).mono
      (fun _ h c => ⟨(h c).1.trans (same3 m m' c (hargs c).1 (hargs c).2.1 (hargs c).2.2.1 (hargs c).2.2.2.1 (hargs c).2.2.2.2 _ fun r l => Blocked.OutProj.ref_apply _ _ _ _ _ r l), (h c).2⟩)
      (Cert.Reference3Ideal.Value.run (F := Ideal) m' ρ')⟩,
  trivial,
  fun m ρ m' ρ' _ hargs => ⟨fun c => (Cert.Kernel4Ideal.Gen.dats m 0 c).arrAt 3 Cert.Kernel4Ideal.cfg0.N, Cert.Kernel4Ideal.Value.run_blocks (F := Ideal) m ρ,
    (θ_run Cert.Reference4Ideal.defs _ _).mono
      (fun _ h c => ⟨(h c).1.trans (same4 m m' c (hargs c).1 (hargs c).2.1 (hargs c).2.2 _ fun r l => Blocked.InProj.ref_apply _ _ _ r l), (h c).2⟩)
      (Cert.Reference4Ideal.Value.run (F := Ideal) m' ρ')⟩,
  trivial,
  fun m ρ m' ρ' hp hargs => ⟨fun c => (Cert.Kernel5Ideal.Gen.dats m 0 c).arrAt 7 Cert.Kernel5Ideal.cfg0.N, Cert.Kernel5Ideal.Value.run_blocks (F := Ideal) m ρ,
    (θ_run Cert.Reference5Ideal.defs _ _).mono
      (fun _ h c => ⟨(h c).1.trans (same5 m m' c (hargs c).1 (hargs c).2.1 (hargs c).2.2.1 (hargs c).2.2.2 hp _ fun r l => Blocked.Up.ref_apply m' c r l), (h c).2⟩)
      (Cert.Reference5Ideal.Value.run (F := Ideal) m' ρ')⟩,
  trivial,
  fun m ρ m' ρ' _ hargs => ⟨fun c => (Cert.Kernel6Ideal.Gen.dats m 0 c).arrAt 2 Cert.Kernel6Ideal.cfg0.N, Cert.Kernel6Ideal.Value.run_blocks (F := Ideal) m ρ,
    (θ_run Cert.Reference6Ideal.defs _ _).mono
      (fun _ h c => ⟨(h c).1.trans (same6 m m' c (hargs c).1 (hargs c).2 _ fun r l => Blocked.Norm.ref_apply _ _ r l), (h c).2⟩)
      (Cert.Reference6Ideal.Value.run (F := Ideal) m' ρ')⟩,
  trivial,
  fun m ρ m' ρ' _ hargs => ⟨fun c => (Cert.Kernel7Ideal.Gen.dats m 0 c).arrAt 1 Cert.Kernel7Ideal.cfg0.N, Cert.Kernel7Ideal.Value.run_blocks (F := Ideal) m ρ,
    (θ_run Cert.Reference7Ideal.defs _ _).mono
      (fun _ h c => ⟨(h c).1.trans (same7 m m' c (hargs c) _ fun b r l => Blocked.Reorder.ref_apply _ b r l), (h c).2⟩)
      (Cert.Reference7Ideal.Value.run (F := Ideal) m' ρ')⟩⟩

end Cert.Proof

end
